-- ==== Defs.lean ====
def Pre_Kernel [hPre_lens_fit : Cert.Pre_lens_fit.Facts] (m : (ℓ : Loc Cert.Kernel.nD Cert.Kernel.τ Cert.Kernel.sig) → Buf (Elt Bits) ℓ) : Prop :=
  ∀ c : Dev Cert.Kernel.nD,
    (Cert.Pre_lens_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_lens_fit : Cert.Pre_lens_fit.Facts] (m : (ℓ : Loc Cert.KernelIdeal.nD Cert.KernelIdeal.τ Cert.KernelIdeal.sig) → Buf (Elt Ideal) ℓ) : Prop :=
  ∀ c : Dev Cert.KernelIdeal.nD,
    (Cert.Pre_lens_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_lens_fit : Cert.Pre_lens_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_lens_fit : Cert.Pre_lens_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v5_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_lens_fit : Cert.Pre_lens_fit.Facts) (hPre_in_range : Cert.Pre_in_range.Facts),
    quiescent_Kernel (hKernel := hKernel) (hPre_lens_fit := hPre_lens_fit)
    ∧ quiescent_KernelIdeal (hKernelIdeal := hKernelIdeal) (hPre_lens_fit := hPre_lens_fit)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S9x4096x8x128 : Shape := ⟨4, ![9, 4096, 8, 128]⟩
abbrev S9x1x1536x128 : Shape := ⟨4, ![9, 1, 1536, 128]⟩
abbrev S9x1x1536 : Shape := ⟨3, ![9, 1, 1536]⟩
abbrev S9x1 : Shape := ⟨2, ![9, 1]⟩
abbrev S9 : Shape := ⟨1, ![9]⟩
abbrev S_ : Shape := ⟨0, ![]⟩
abbrev S9x4096x8 : Shape := ⟨3, ![9, 4096, 8]⟩

class Facts : Prop where
  bitsLt_bf16_f32 : FTy.bits .bf16 < FTy.bits .f32
  reducesTo_S9x4096x8x128_S9x4096x8_d3 : S9x4096x8x128.ReducesTo [3] S9x4096x8
  h_S_ : 0 < S_.numel
  bcast_S_S9x4096x8 : S_.BroadcastsInDim S9x4096x8 (![] : Fin 0 → Fin S9x4096x8.rank)
  reducesTo_S9x4096x8_S_d0_1_2 : S9x4096x8.ReducesTo [0, 1, 2] S_
  bcast_S_S9 : S_.BroadcastsInDim S9 (![] : Fin 0 → Fin S9.rank)
  reducesTo_S9_S_d0 : S9.ReducesTo [0] S_

variable [Facts]

def fn {F : FTy → Type} [FloatOps F] (main_arg0 : FVec F S9x4096x8x128 .bf16) (main_arg1 : FVec F S9x1x1536x128 .fp8e4m3) (main_arg2 : FVec F S9x1x1536 .f32) (main_arg3 : FVec F S9x1x1536x128 .fp8e4m3) (main_arg4 : FVec F S9x1 .f32) (main_arg5 : IVec S9 32) : IVec S_ 1 :=
  let main_v0 : FVec F S9x4096x8x128 .f32 := (extf .f32 · bitsLt_bf16_f32) main_arg0
  let main_v1 : FVec F S9x4096x8x128 .f32 := Host.absf main_v0
  let main_cst : FVec F S_ .f32 := constant S_ .f32 0xFF800000#32
  let main_v2 : FVec F S9x4096x8 .f32 := (fun x v => Host.reduce FloatOps.maximumf x v reducesTo_S9x4096x8x128_S9x4096x8_d3 h_S_) main_v1 main_cst
  let main_cst_0 : FVec F S_ .f32 := constant S_ .f32 0x00000000#32
  let main_v3 : FVec F S9x4096x8 .f32 := broadcastInDim S9x4096x8 ![] bcast_S_S9x4096x8 main_cst_0
  let main_v4 : IVec S9x4096x8 1 := cmpf .oeq main_v2 main_v3
  let main_cst_1 : FVec F S_ .f32 := constant S_ .f32 0x04E00000#32
  let main_v5 : FVec F S9x4096x8 .f32 := broadcastInDim S9x4096x8 ![] bcast_S_S9x4096x8 main_cst_1
  let main_v6 : IVec S9x4096x8 1 := cmpf .oge main_v2 main_v5
  let main_cst_2 : FVec F S_ .f32 := constant S_ .f32 0x7F7FFFFF#32
  let main_v7 : FVec F S9x4096x8 .f32 := broadcastInDim S9x4096x8 ![] bcast_S_S9x4096x8 main_cst_2
  let main_v8 : IVec S9x4096x8 1 := cmpf .ole main_v2 main_v7
  let main_v9 : IVec S9x4096x8 1 := andi main_v6 main_v8
  let main_v10 : IVec S9x4096x8 1 := ori main_v4 main_v9
  let main_c : IVec S_ 1 := constantI S_ 1 1#1
  let main_v11 : IVec S_ 1 := (fun x v => Host.reduce IntOp.andi x v reducesTo_S9x4096x8_S_d0_1_2 h_S_) main_v10 main_c
  let main_c_3 : IVec S_ 32 := constantI S_ 32 1536#32
  let main_v12 : IVec S9 32 := broadcastInDim S9 ![] bcast_S_S9 main_c_3
  let main_v13 : IVec S9 1 := cmpi .sle main_arg5 main_v12
  let main_c_4 : IVec S_ 1 := constantI S_ 1 1#1
  let main_v14 : IVec S_ 1 := (fun x v => Host.reduce IntOp.andi x v reducesTo_S9_S_d0 h_S_) main_v13 main_c_4
  let main_v15 : IVec S_ 1 := andi main_v11 main_v14
  main_v15
-- ==== Pre_lens_fit.lean ====
abbrev S9x4096x8x128 : Shape := ⟨4, ![9, 4096, 8, 128]⟩
abbrev S9x1x1536x128 : Shape := ⟨4, ![9, 1, 1536, 128]⟩
abbrev S9x1x1536 : Shape := ⟨3, ![9, 1, 1536]⟩
abbrev S9x1 : Shape := ⟨2, ![9, 1]⟩
abbrev S9 : Shape := ⟨1, ![9]⟩
abbrev S_ : Shape := ⟨0, ![]⟩

class Facts : Prop where
  bcast_S_S9 : S_.BroadcastsInDim S9 (![] : Fin 0 → Fin S9.rank)
  reducesTo_S9_S_d0 : S9.ReducesTo [0] S_
  h_S_ : 0 < S_.numel

variable [Facts]

def fn {F : FTy → Type} [FloatOps F] (main_arg0 : FVec F S9x4096x8x128 .bf16) (main_arg1 : FVec F S9x1x1536x128 .fp8e4m3) (main_arg2 : FVec F S9x1x1536 .f32) (main_arg3 : FVec F S9x1x1536x128 .fp8e4m3) (main_arg4 : FVec F S9x1 .f32) (main_arg5 : IVec S9 32) : IVec S_ 1 :=
  let main_c : IVec S_ 32 := constantI S_ 32 1536#32
  let main_v0 : IVec S9 32 := broadcastInDim S9 ![] bcast_S_S9 main_c
  let main_v1 : IVec S9 1 := cmpi .sle main_arg5 main_v0
  let main_c_0 : IVec S_ 1 := constantI S_ 1 1#1
  let main_v2 : IVec S_ 1 := (fun x v => Host.reduce IntOp.andi x v reducesTo_S9_S_d0 h_S_) main_v1 main_c_0
  main_v2
-- ==== Kernel.lean ====
abbrev S9x4096x8x128 : Shape := ⟨4, ![9, 4096, 8, 128]⟩
abbrev S9x1x1536x128 : Shape := ⟨4, ![9, 1, 1536, 128]⟩
abbrev S9x1x1536 : Shape := ⟨3, ![9, 1, 1536]⟩
abbrev S9x1 : Shape := ⟨2, ![9, 1]⟩
abbrev S9 : Shape := ⟨1, ![9]⟩
abbrev S9x32768x128 : Shape := ⟨3, ![9, 32768, 128]⟩
abbrev S9x1536x128 : Shape := ⟨3, ![9, 1536, 128]⟩
abbrev S_ : Shape := ⟨0, ![]⟩
abbrev S9x1536x1 : Shape := ⟨3, ![9, 1536, 1]⟩
abbrev S9x128x1536 : Shape := ⟨3, ![9, 128, 1536]⟩
abbrev S9x1x32768 : Shape := ⟨3, ![9, 1, 32768]⟩
abbrev S1x256x128 : Shape := ⟨3, ![1, 256, 128]⟩
abbrev S1x1536x128 : Shape := ⟨3, ![1, 1536, 128]⟩
abbrev S1x128x1536 : Shape := ⟨3, ![1, 128, 1536]⟩
abbrev S1x1x256 : Shape := ⟨3, ![1, 1, 256]⟩
abbrev S1536x256 : Shape := ⟨2, ![1536, 256]⟩
abbrev S1 : Shape := ⟨1, ![1]⟩
abbrev S256x128 : Shape := ⟨2, ![256, 128]⟩
abbrev S256 : Shape := ⟨1, ![256]⟩
abbrev S256x1 : Shape := ⟨2, ![256, 1]⟩
abbrev S128x256 : Shape := ⟨2, ![128, 256]⟩
abbrev S1x256 : Shape := ⟨2, ![1, 256]⟩
abbrev S8x256 : Shape := ⟨2, ![8, 256]⟩
abbrev S256x256 : Shape := ⟨2, ![256, 256]⟩
abbrev S32x8x256 : Shape := ⟨3, ![32, 8, 256]⟩
abbrev S1x128x256 : Shape := ⟨3, ![1, 128, 256]⟩

abbrev nBuf : Space → Nat
  | .hbm => 18
  | .vmem => 15
  | .smem => 2
  | _ => 0

abbrev bufTy : (tb : Table) → Fin (tcTables nBuf tb) → BufTy
  | .hbm, ⟨0, _⟩ => ⟨S9x4096x8x128, .bf16⟩
  | .hbm, ⟨1, _⟩ => ⟨S9x1x1536x128, .fp8e4m3⟩
  | .hbm, ⟨2, _⟩ => ⟨S9x1x1536, .f32⟩
  | .hbm, ⟨3, _⟩ => ⟨S9x1x1536x128, .fp8e4m3⟩
  | .hbm, ⟨4, _⟩ => ⟨S9x1, .f32⟩
  | .hbm, ⟨5, _⟩ => ⟨S9x32768x128, .bf16⟩
  | .hbm, ⟨6, _⟩ => ⟨S9x1536x128, .fp8e4m3⟩
  | .hbm, ⟨7, _⟩ => ⟨S_, .f32⟩
  | .hbm, ⟨8, _⟩ => ⟨S9x1x1536, .f32⟩
  | .hbm, ⟨9, _⟩ => ⟨S9x1x1536, .f32⟩
  | .hbm, ⟨10, _⟩ => ⟨S9x1536x1, .f32⟩
  | .hbm, ⟨11, _⟩ => ⟨S9x1536x128, .f32⟩
  | .hbm, ⟨12, _⟩ => ⟨S9x1536x128, .fp8e4m3⟩
  | .hbm, ⟨13, _⟩ => ⟨S9x128x1536, .fp8e4m3⟩
  | .hbm, ⟨14, _⟩ => ⟨S9, .f32⟩
  | .hbm, ⟨15, _⟩ => ⟨S9x32768x128, .bf16⟩
  | .hbm, ⟨16, _⟩ => ⟨S9x32768x128, .fp8e4m3⟩
  | .hbm, ⟨17, _⟩ => ⟨S9x1x32768, .f32⟩
  | .local _ .vmem, ⟨0, _⟩ => ⟨S1x256x128, .bf16⟩
  | .local _ .vmem, ⟨1, _⟩ => ⟨S1x256x128, .bf16⟩
  | .local _ .vmem, ⟨2, _⟩ => ⟨S1x1536x128, .fp8e4m3⟩
  | .local _ .vmem, ⟨3, _⟩ => ⟨S1x1536x128, .fp8e4m3⟩
  | .local _ .vmem, ⟨4, _⟩ => ⟨S1x1536x128, .f32⟩
  | .local _ .vmem, ⟨5, _⟩ => ⟨S1x1536x128, .f32⟩
  | .local _ .vmem, ⟨6, _⟩ => ⟨S1x128x1536, .fp8e4m3⟩
  | .local _ .vmem, ⟨7, _⟩ => ⟨S1x128x1536, .fp8e4m3⟩
  | .local _ .vmem, ⟨8, _⟩ => ⟨S1x256x128, .bf16⟩
  | .local _ .vmem, ⟨9, _⟩ => ⟨S1x256x128, .bf16⟩
  | .local _ .vmem, ⟨10, _⟩ => ⟨S1x256x128, .fp8e4m3⟩
  | .local _ .vmem, ⟨11, _⟩ => ⟨S1x256x128, .fp8e4m3⟩
  | .local _ .vmem, ⟨12, _⟩ => ⟨S1x1x256, .f32⟩
  | .local _ .vmem, ⟨13, _⟩ => ⟨S1x1x256, .f32⟩
  | .local _ .vmem, ⟨14, _⟩ => ⟨S1536x256, .f32⟩
  | .local _ .smem, ⟨0, _⟩ => ⟨S9, .i32⟩
  | .local _ .smem, ⟨1, _⟩ => ⟨S9, .f32⟩
  | _, _ => ⟨S9x4096x8x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨1, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_stg4_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![9, 128], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop (v1 : BitVec 32) : Scf.Loop 32 :=
  let c0_i32_60 : BitVec 32 := 0#32
  let c255_i32 : BitVec 32 := 255#32
  let v2 : BitVec 32 := Scalar.addi v1 c255_i32
  let c256_i32 : BitVec 32 := 256#32
  let v3 : BitVec 32 := Scalar.divsi v2 c256_i32
  let v201 : BitVec 32 := Scalar.subi v3 c0_i32_60
  let c1_i32_61 : BitVec 32 := 1#32
  let v203 : BitVec 32 := Scalar.divsi v201 c1_i32_61
  let v204 : BitVec 32 := Scalar.muli v203 c1_i32_61
  let v205 : BitVec 32 := Scalar.addi c0_i32_60 v204
  let c1_i32_62 : BitVec 32 := 1#32
  ⟨c0_i32_60, v205, c1_i32_62⟩

def k0_mult1 (v1 : BitVec 32) (k0_t1 : Fin (k0_t1_loop v1).trips) : BitVec 32 :=
  let c0_i32_60 : BitVec 32 := 0#32
  let c1_i32_62 : BitVec 32 := 1#32
  let arg12 : BitVec 32 := Scf.iv c0_i32_60 c1_i32_62 k0_t1
  let c256_i32_75 : BitVec 32 := 256#32
  let v232 : BitVec 32 := Scalar.muli arg12 c256_i32_75
  v232
def k0_off2 (v1 : BitVec 32) (k0_t1 : Fin (k0_t1_loop v1).trips) : Fin 3 → Nat :=
  let c0_76 : Index := 0#32
  let c0_i32_60 : BitVec 32 := 0#32
  let c1_i32_62 : BitVec 32 := 1#32
  let arg12 : BitVec 32 := Scf.iv c0_i32_60 c1_i32_62 k0_t1
  let c256_i32_75 : BitVec 32 := 256#32
  let v232 : BitVec 32 := Scalar.muli arg12 c256_i32_75
  let v233 : BitVec 32 := v232
  let v234 : Index := Scalar.indexCast v233
  let c0_77 : Index := 0#32
  ![0, v234.toNat, 0]
def k0_off3 (v1 : BitVec 32) (k0_t1 : Fin (k0_t1_loop v1).trips) : Fin 2 → Nat :=
  let c0_i32_60 : BitVec 32 := 0#32
  let c1_i32_62 : BitVec 32 := 1#32
  let arg12 : BitVec 32 := Scf.iv c0_i32_60 c1_i32_62 k0_t1
  let c256_i32_75 : BitVec 32 := 256#32
  let v232 : BitVec 32 := Scalar.muli arg12 c256_i32_75
  let v233 : BitVec 32 := v232
  let v250 : Index := Scalar.indexCast v233
  let c0_82 : Index := 0#32
  ![v250.toNat, 0]
@[reducible] def k0_t2_loop (v1 : BitVec 32) : Scf.Loop 32 :=
  let c0_i32_60 : BitVec 32 := 0#32
  let c255_i32 : BitVec 32 := 255#32
  let v2 : BitVec 32 := Scalar.addi v1 c255_i32
  let c256_i32 : BitVec 32 := 256#32
  let v3 : BitVec 32 := Scalar.divsi v2 c256_i32
  let v201 : BitVec 32 := Scalar.subi v3 c0_i32_60
  let c1_i32_61 : BitVec 32 := 1#32
  let v203 : BitVec 32 := Scalar.divsi v201 c1_i32_61
  let v204 : BitVec 32 := Scalar.muli v203 c1_i32_61
  let v205 : BitVec 32 := Scalar.addi c0_i32_60 v204
  let v202 : BitVec 32 := Scalar.addi c0_i32_60 v201
  let c1_i32_63 : BitVec 32 := 1#32
  ⟨v205, v202, c1_i32_63⟩
def k0_mult2 (v1 : BitVec 32) (k0_t2 : Fin (k0_t2_loop v1).trips) : BitVec 32 :=
  let c0_i32_60 : BitVec 32 := 0#32
  let c255_i32 : BitVec 32 := 255#32
  let v2 : BitVec 32 := Scalar.addi v1 c255_i32
  let c256_i32 : BitVec 32 := 256#32
  let v3 : BitVec 32 := Scalar.divsi v2 c256_i32
  let v201 : BitVec 32 := Scalar.subi v3 c0_i32_60
  let c1_i32_61 : BitVec 32 := 1#32
  let v203 : BitVec 32 := Scalar.divsi v201 c1_i32_61
  let v204 : BitVec 32 := Scalar.muli v203 c1_i32_61
  let v205 : BitVec 32 := Scalar.addi c0_i32_60 v204
  let c1_i32_63 : BitVec 32 := 1#32
  let arg12 : BitVec 32 := Scf.iv v205 c1_i32_63 k0_t2
  let c256_i32_75 : BitVec 32 := 256#32
  let v232 : BitVec 32 := Scalar.muli arg12 c256_i32_75
  v232
def k0_off4 (v1 : BitVec 32) (k0_t2 : Fin (k0_t2_loop v1).trips) : Fin 3 → Nat :=
  let c0_76 : Index := 0#32
  let c0_i32_60 : BitVec 32 := 0#32
  let c255_i32 : BitVec 32 := 255#32
  let v2 : BitVec 32 := Scalar.addi v1 c255_i32
  let c256_i32 : BitVec 32 := 256#32
  let v3 : BitVec 32 := Scalar.divsi v2 c256_i32
  let v201 : BitVec 32 := Scalar.subi v3 c0_i32_60
  let c1_i32_61 : BitVec 32 := 1#32
  let v203 : BitVec 32 := Scalar.divsi v201 c1_i32_61
  let v204 : BitVec 32 := Scalar.muli v203 c1_i32_61
  let v205 : BitVec 32 := Scalar.addi c0_i32_60 v204
  let c1_i32_63 : BitVec 32 := 1#32
  let arg12 : BitVec 32 := Scf.iv v205 c1_i32_63 k0_t2
  let c256_i32_75 : BitVec 32 := 256#32
  let v232 : BitVec 32 := Scalar.muli arg12 c256_i32_75
  let v233 : BitVec 32 := v232
  let v234 : Index := Scalar.indexCast v233
  let c0_77 : Index := 0#32
  ![0, v234.toNat, 0]
def k0_off5 (v1 : BitVec 32) (k0_t2 : Fin (k0_t2_loop v1).trips) : Fin 2 → Nat :=
  let c0_i32_60 : BitVec 32 := 0#32
  let c255_i32 : BitVec 32 := 255#32
  let v2 : BitVec 32 := Scalar.addi v1 c255_i32
  let c256_i32 : BitVec 32 := 256#32
  let v3 : BitVec 32 := Scalar.divsi v2 c256_i32
  let v201 : BitVec 32 := Scalar.subi v3 c0_i32_60
  let c1_i32_61 : BitVec 32 := 1#32
  let v203 : BitVec 32 := Scalar.divsi v201 c1_i32_61
  let v204 : BitVec 32 := Scalar.muli v203 c1_i32_61
  let v205 : BitVec 32 := Scalar.addi c0_i32_60 v204
  let c1_i32_63 : BitVec 32 := 1#32
  let arg12 : BitVec 32 := Scf.iv v205 c1_i32_63 k0_t2
  let c256_i32_75 : BitVec 32 := 256#32
  let v232 : BitVec 32 := Scalar.muli arg12 c256_i32_75
  let v233 : BitVec 32 := v232
  let v250 : Index := Scalar.indexCast v233
  let c0_82 : Index := 0#32
  ![v250.toNat, 0]
@[reducible] def k0_t3_loop (v1 : BitVec 32) : Scf.Loop 32 :=
  let c0_i32_67 : BitVec 32 := 0#32
  let c255_i32 : BitVec 32 := 255#32
  let v2 : BitVec 32 := Scalar.addi v1 c255_i32
  let c256_i32 : BitVec 32 := 256#32
  let v3 : BitVec 32 := Scalar.divsi v2 c256_i32
  let v212 : BitVec 32 := Scalar.subi v3 c0_i32_67
  let c1_i32_68 : BitVec 32 := 1#32
  let v214 : BitVec 32 := Scalar.divsi v212 c1_i32_68
  let v215 : BitVec 32 := Scalar.muli v214 c1_i32_68
  let v216 : BitVec 32 := Scalar.addi c0_i32_67 v215
  let c1_i32_69 : BitVec 32 := 1#32
  ⟨c0_i32_67, v216, c1_i32_69⟩
def k0_mult3 (v1 : BitVec 32) (k0_t3 : Fin (k0_t3_loop v1).trips) : BitVec 32 :=
  let c0_i32_67 : BitVec 32 := 0#32
  let c1_i32_69 : BitVec 32 := 1#32
  let arg12 : BitVec 32 := Scf.iv c0_i32_67 c1_i32_69 k0_t3
  let c256_i32_75 : BitVec 32 := 256#32
  let v232 : BitVec 32 := Scalar.muli arg12 c256_i32_75
  v232
def k0_off6 (v1 : BitVec 32) (k0_t3 : Fin (k0_t3_loop v1).trips) : Fin 2 → Nat :=
  let c0_i32_67 : BitVec 32 := 0#32
  let c1_i32_69 : BitVec 32 := 1#32
  let arg12 : BitVec 32 := Scf.iv c0_i32_67 c1_i32_69 k0_t3
  let c256_i32_75 : BitVec 32 := 256#32
  let v232 : BitVec 32 := Scalar.muli arg12 c256_i32_75
  let v233 : BitVec 32 := v232
  let v234 : Index := Scalar.indexCast v233
  let c0_76 : Index := 0#32
  ![v234.toNat, 0]
def k0_off7 (v1 : BitVec 32) (k0_t3 : Fin (k0_t3_loop v1).trips) : Fin 3 → Nat :=
  let c0_81 : Index := 0#32
  let c0_82 : Index := 0#32
  let c0_i32_67 : BitVec 32 := 0#32
  let c1_i32_69 : BitVec 32 := 1#32
  let arg12 : BitVec 32 := Scf.iv c0_i32_67 c1_i32_69 k0_t3
  let c256_i32_75 : BitVec 32 := 256#32
  let v232 : BitVec 32 := Scalar.muli arg12 c256_i32_75
  let v233 : BitVec 32 := v232
  let v251 : Index := Scalar.indexCast v233
  ![0, 0, v251.toNat]
@[reducible] def k0_t4_loop (v1 : BitVec 32) : Scf.Loop 32 :=
  let c0_i32_67 : BitVec 32 := 0#32
  let c255_i32 : BitVec 32 := 255#32
  let v2 : BitVec 32 := Scalar.addi v1 c255_i32
  let c256_i32 : BitVec 32 := 256#32
  let v3 : BitVec 32 := Scalar.divsi v2 c256_i32
  let v212 : BitVec 32 := Scalar.subi v3 c0_i32_67
  let c1_i32_68 : BitVec 32 := 1#32
  let v214 : BitVec 32 := Scalar.divsi v212 c1_i32_68
  let v215 : BitVec 32 := Scalar.muli v214 c1_i32_68
  let v216 : BitVec 32 := Scalar.addi c0_i32_67 v215
  let v213 : BitVec 32 := Scalar.addi c0_i32_67 v212
  let c1_i32_70 : BitVec 32 := 1#32
  ⟨v216, v213, c1_i32_70⟩
def k0_mult4 (v1 : BitVec 32) (k0_t4 : Fin (k0_t4_loop v1).trips) : BitVec 32 :=
  let c0_i32_67 : BitVec 32 := 0#32
  let c255_i32 : BitVec 32 := 255#32
  let v2 : BitVec 32 := Scalar.addi v1 c255_i32
  let c256_i32 : BitVec 32 := 256#32
  let v3 : BitVec 32 := Scalar.divsi v2 c256_i32
  let v212 : BitVec 32 := Scalar.subi v3 c0_i32_67
  let c1_i32_68 : BitVec 32 := 1#32
  let v214 : BitVec 32 := Scalar.divsi v212 c1_i32_68
  let v215 : BitVec 32 := Scalar.muli v214 c1_i32_68
  let v216 : BitVec 32 := Scalar.addi c0_i32_67 v215
  let c1_i32_70 : BitVec 32 := 1#32
  let arg12 : BitVec 32 := Scf.iv v216 c1_i32_70 k0_t4
  let c256_i32_75 : BitVec 32 := 256#32
  let v232 : BitVec 32 := Scalar.muli arg12 c256_i32_75
  v232
def k0_off8 (v1 : BitVec 32) (k0_t4 : Fin (k0_t4_loop v1).trips) : Fin 2 → Nat :=
  let c0_i32_67 : BitVec 32 := 0#32
  let c255_i32 : BitVec 32 := 255#32
  let v2 : BitVec 32 := Scalar.addi v1 c255_i32
  let c256_i32 : BitVec 32 := 256#32
  let v3 : BitVec 32 := Scalar.divsi v2 c256_i32
  let v212 : BitVec 32 := Scalar.subi v3 c0_i32_67
  let c1_i32_68 : BitVec 32 := 1#32
  let v214 : BitVec 32 := Scalar.divsi v212 c1_i32_68
  let v215 : BitVec 32 := Scalar.muli v214 c1_i32_68
  let v216 : BitVec 32 := Scalar.addi c0_i32_67 v215
  let c1_i32_70 : BitVec 32 := 1#32
  let arg12 : BitVec 32 := Scf.iv v216 c1_i32_70 k0_t4
  let c256_i32_75 : BitVec 32 := 256#32
  let v232 : BitVec 32 := Scalar.muli arg12 c256_i32_75
  let v233 : BitVec 32 := v232
  let v234 : Index := Scalar.indexCast v233
  let c0_76 : Index := 0#32
  ![v234.toNat, 0]
def k0_off9 (v1 : BitVec 32) (k0_t4 : Fin (k0_t4_loop v1).trips) : Fin 3 → Nat :=
  let c0_81 : Index := 0#32
  let c0_82 : Index := 0#32
  let c0_i32_67 : BitVec 32 := 0#32
  let c255_i32 : BitVec 32 := 255#32
  let v2 : BitVec 32 := Scalar.addi v1 c255_i32
  let c256_i32 : BitVec 32 := 256#32
  let v3 : BitVec 32 := Scalar.divsi v2 c256_i32
  let v212 : BitVec 32 := Scalar.subi v3 c0_i32_67
  let c1_i32_68 : BitVec 32 := 1#32
  let v214 : BitVec 32 := Scalar.divsi v212 c1_i32_68
  let v215 : BitVec 32 := Scalar.muli v214 c1_i32_68
  let v216 : BitVec 32 := Scalar.addi c0_i32_67 v215
  let c1_i32_70 : BitVec 32 := 1#32
  let arg12 : BitVec 32 := Scf.iv v216 c1_i32_70 k0_t4
  let c256_i32_75 : BitVec 32 := 256#32
  let v232 : BitVec 32 := Scalar.muli arg12 c256_i32_75
  let v233 : BitVec 32 := v232
  let v251 : Index := Scalar.indexCast v233
  ![0, 0, v251.toNat]

def k0_chk1 (v1 : BitVec 32) : Prop :=
  ((k0_t1_loop v1).OK) ∧
  (∀ k0_t1 : Fin (k0_t1_loop v1).trips, 256 ∣ (k0_mult1 v1 k0_t1).toNat) ∧
  (∀ k0_t1 : Fin (k0_t1_loop v1).trips, ∀ a, (k0_off2 v1 k0_t1) a + S1x256x128.size a ≤ S1x1536x128.size a) ∧
  (∀ k0_t1 : Fin (k0_t1_loop v1).trips, ∀ a, (k0_off3 v1 k0_t1) a + S256x256.size a ≤ S1536x256.size a) ∧
  ((k0_t2_loop v1).OK) ∧
  (∀ k0_t2 : Fin (k0_t2_loop v1).trips, 256 ∣ (k0_mult2 v1 k0_t2).toNat) ∧
  (∀ k0_t2 : Fin (k0_t2_loop v1).trips, ∀ a, (k0_off4 v1 k0_t2) a + S1x256x128.size a ≤ S1x1536x128.size a) ∧
  (∀ k0_t2 : Fin (k0_t2_loop v1).trips, ∀ a, (k0_off5 v1 k0_t2) a + S256x256.size a ≤ S1536x256.size a) ∧
  ((k0_t3_loop v1).OK) ∧
  (∀ k0_t3 : Fin (k0_t3_loop v1).trips, 256 ∣ (k0_mult3 v1 k0_t3).toNat) ∧
  (∀ k0_t3 : Fin (k0_t3_loop v1).trips, ∀ a, (k0_off6 v1 k0_t3) a + S256x256.size a ≤ S1536x256.size a) ∧
  (∀ k0_t3 : Fin (k0_t3_loop v1).trips, ∀ a, (k0_off7 v1 k0_t3) a + S1x128x256.size a ≤ S1x128x1536.size a) ∧
  ((k0_t4_loop v1).OK) ∧
  (∀ k0_t4 : Fin (k0_t4_loop v1).trips, 256 ∣ (k0_mult4 v1 k0_t4).toNat) ∧
  (∀ k0_t4 : Fin (k0_t4_loop v1).trips, ∀ a, (k0_off8 v1 k0_t4) a + S256x256.size a ≤ S1536x256.size a) ∧
  (∀ k0_t4 : Fin (k0_t4_loop v1).trips, ∀ a, (k0_off9 v1 k0_t4) a + S1x128x256.size a ≤ S1x128x1536.size a)
theorem k0_t1_ok : ∀ (v1 : BitVec 32) (k0_hw1 : k0_chk1 v1), (k0_t1_loop v1).OK := fun v1 k0_hw1 => k0_hw1.1
theorem k0_mult1_dvd : ∀ (v1 : BitVec 32) (k0_hw1 : k0_chk1 v1) (k0_t1 : Fin (k0_t1_loop v1).trips), 256 ∣ (k0_mult1 v1 k0_t1).toNat := fun v1 k0_hw1 k0_t1 => k0_hw1.2.1 k0_t1
theorem k0_off2_inb : ∀ (v1 : BitVec 32) (k0_hw1 : k0_chk1 v1) (k0_t1 : Fin (k0_t1_loop v1).trips), ∀ a, (k0_off2 v1 k0_t1) a + S1x256x128.size a ≤ S1x1536x128.size a := fun v1 k0_hw1 k0_t1 => k0_hw1.2.2.1 k0_t1
theorem k0_off3_inb : ∀ (v1 : BitVec 32) (k0_hw1 : k0_chk1 v1) (k0_t1 : Fin (k0_t1_loop v1).trips), ∀ a, (k0_off3 v1 k0_t1) a + S256x256.size a ≤ S1536x256.size a := fun v1 k0_hw1 k0_t1 => k0_hw1.2.2.2.1 k0_t1
theorem k0_t2_ok : ∀ (v1 : BitVec 32) (k0_hw1 : k0_chk1 v1), (k0_t2_loop v1).OK := fun v1 k0_hw1 => k0_hw1.2.2.2.2.1
theorem k0_mult2_dvd : ∀ (v1 : BitVec 32) (k0_hw1 : k0_chk1 v1) (k0_t2 : Fin (k0_t2_loop v1).trips), 256 ∣ (k0_mult2 v1 k0_t2).toNat := fun v1 k0_hw1 k0_t2 => k0_hw1.2.2.2.2.2.1 k0_t2
theorem k0_off4_inb : ∀ (v1 : BitVec 32) (k0_hw1 : k0_chk1 v1) (k0_t2 : Fin (k0_t2_loop v1).trips), ∀ a, (k0_off4 v1 k0_t2) a + S1x256x128.size a ≤ S1x1536x128.size a := fun v1 k0_hw1 k0_t2 => k0_hw1.2.2.2.2.2.2.1 k0_t2
theorem k0_off5_inb : ∀ (v1 : BitVec 32) (k0_hw1 : k0_chk1 v1) (k0_t2 : Fin (k0_t2_loop v1).trips), ∀ a, (k0_off5 v1 k0_t2) a + S256x256.size a ≤ S1536x256.size a := fun v1 k0_hw1 k0_t2 => k0_hw1.2.2.2.2.2.2.2.1 k0_t2
theorem k0_t3_ok : ∀ (v1 : BitVec 32) (k0_hw1 : k0_chk1 v1), (k0_t3_loop v1).OK := fun v1 k0_hw1 => k0_hw1.2.2.2.2.2.2.2.2.1
theorem k0_mult3_dvd : ∀ (v1 : BitVec 32) (k0_hw1 : k0_chk1 v1) (k0_t3 : Fin (k0_t3_loop v1).trips), 256 ∣ (k0_mult3 v1 k0_t3).toNat := fun v1 k0_hw1 k0_t3 => k0_hw1.2.2.2.2.2.2.2.2.2.1 k0_t3
theorem k0_off6_inb : ∀ (v1 : BitVec 32) (k0_hw1 : k0_chk1 v1) (k0_t3 : Fin (k0_t3_loop v1).trips), ∀ a, (k0_off6 v1 k0_t3) a + S256x256.size a ≤ S1536x256.size a := fun v1 k0_hw1 k0_t3 => k0_hw1.2.2.2.2.2.2.2.2.2.2.1 k0_t3
theorem k0_off7_inb : ∀ (v1 : BitVec 32) (k0_hw1 : k0_chk1 v1) (k0_t3 : Fin (k0_t3_loop v1).trips), ∀ a, (k0_off7 v1 k0_t3) a + S1x128x256.size a ≤ S1x128x1536.size a := fun v1 k0_hw1 k0_t3 => k0_hw1.2.2.2.2.2.2.2.2.2.2.2.1 k0_t3
theorem k0_t4_ok : ∀ (v1 : BitVec 32) (k0_hw1 : k0_chk1 v1), (k0_t4_loop v1).OK := fun v1 k0_hw1 => k0_hw1.2.2.2.2.2.2.2.2.2.2.2.2.1
theorem k0_mult4_dvd : ∀ (v1 : BitVec 32) (k0_hw1 : k0_chk1 v1) (k0_t4 : Fin (k0_t4_loop v1).trips), 256 ∣ (k0_mult4 v1 k0_t4).toNat := fun v1 k0_hw1 k0_t4 => k0_hw1.2.2.2.2.2.2.2.2.2.2.2.2.2.1 k0_t4
theorem k0_off8_inb : ∀ (v1 : BitVec 32) (k0_hw1 : k0_chk1 v1) (k0_t4 : Fin (k0_t4_loop v1).trips), ∀ a, (k0_off8 v1 k0_t4) a + S256x256.size a ≤ S1536x256.size a := fun v1 k0_hw1 k0_t4 => k0_hw1.2.2.2.2.2.2.2.2.2.2.2.2.2.2.1 k0_t4
theorem k0_off9_inb : ∀ (v1 : BitVec 32) (k0_hw1 : k0_chk1 v1) (k0_t4 : Fin (k0_t4_loop v1).trips), ∀ a, (k0_off9 v1 k0_t4) a + S1x128x256.size a ≤ S1x128x1536.size a := fun v1 k0_hw1 k0_t4 => k0_hw1.2.2.2.2.2.2.2.2.2.2.2.2.2.2.2 k0_t4

def k0_off10 (i : grid0.Coords) : Fin 1 → Nat :=
  let arg0 : BitVec 32 := BitVec.ofNat 32 (i 0).val
  let v221 : Index := Scalar.indexCast arg0
  ![v221.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1536x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1536x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1536 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .smem S9 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S9x4096x8x128 : Shape := ⟨4, ![9, 4096, 8, 128]⟩
abbrev S9x1x1536x128 : Shape := ⟨4, ![9, 1, 1536, 128]⟩
abbrev S9x1x1536 : Shape := ⟨3, ![9, 1, 1536]⟩
abbrev S9x1 : Shape := ⟨2, ![9, 1]⟩
abbrev S9 : Shape := ⟨1, ![9]⟩
abbrev S9x32768x128 : Shape := ⟨3, ![9, 32768, 128]⟩
abbrev S9x1536x128 : Shape := ⟨3, ![9, 1536, 128]⟩
abbrev S9x1x1 : Shape := ⟨3, ![9, 1, 1]⟩
abbrev S9x1x32768 : Shape := ⟨3, ![9, 1, 32768]⟩
abbrev S9x32768 : Shape := ⟨2, ![9, 32768]⟩
abbrev S9x32768x1 : Shape := ⟨3, ![9, 32768, 1]⟩
abbrev S9x32768x1536 : Shape := ⟨3, ![9, 32768, 1536]⟩

abbrev nBuf : Space → Nat
  | .hbm => 14
  | .vmem => 9
  | .smem => 0
  | _ => 0

abbrev bufTy : (tb : Table) → Fin (tcTables nBuf tb) → BufTy
  | .hbm, ⟨0, _⟩ => ⟨S9x4096x8x128, .bf16⟩
  | .hbm, ⟨1, _⟩ => ⟨S9x1x1536x128, .fp8e4m3⟩
  | .hbm, ⟨2, _⟩ => ⟨S9x1x1536, .f32⟩
  | .hbm, ⟨3, _⟩ => ⟨S9x1x1536x128, .fp8e4m3⟩
  | .hbm, ⟨4, _⟩ => ⟨S9x1, .f32⟩
  | .hbm, ⟨5, _⟩ => ⟨S9, .i32⟩
  | .hbm, ⟨6, _⟩ => ⟨S9x32768x128, .bf16⟩
  | .hbm, ⟨7, _⟩ => ⟨S9x1536x128, .fp8e4m3⟩
  | .hbm, ⟨8, _⟩ => ⟨S9x1536x128, .fp8e4m3⟩
  | .hbm, ⟨9, _⟩ => ⟨S9x1x1, .f32⟩
  | .hbm, ⟨10, _⟩ => ⟨S9x1x1, .i32⟩
  | .hbm, ⟨11, _⟩ => ⟨S9x32768x128, .bf16⟩
  | .hbm, ⟨12, _⟩ => ⟨S9x32768x128, .fp8e4m3⟩
  | .hbm, ⟨13, _⟩ => ⟨S9x1x32768, .f32⟩
  | .local _ .vmem, ⟨0, _⟩ => ⟨S9x32768x128, .bf16⟩
  | .local _ .vmem, ⟨1, _⟩ => ⟨S9x1536x128, .fp8e4m3⟩
  | .local _ .vmem, ⟨2, _⟩ => ⟨S9x1x1536, .f32⟩
  | .local _ .vmem, ⟨3, _⟩ => ⟨S9x1536x128, .fp8e4m3⟩
  | .local _ .vmem, ⟨4, _⟩ => ⟨S9x1x1, .f32⟩
  | .local _ .vmem, ⟨5, _⟩ => ⟨S9x1x1, .i32⟩
  | .local _ .vmem, ⟨6, _⟩ => ⟨S9x32768x128, .bf16⟩
  | .local _ .vmem, ⟨7, _⟩ => ⟨S9x32768x128, .fp8e4m3⟩
  | .local _ .vmem, ⟨8, _⟩ => ⟨S9x1x32768, .f32⟩
  | _, _ => ⟨S9x4096x8x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F] [Named F]

def κ : String → Option EReal := fun
  | "inv448" => some ((1 / 448 : ℝ) : EReal)
  | "ln2" => some ((Real.log 2 : ℝ) : EReal)
  | _ => none

abbrev grid0 : Pipeline.Grid := .none

abbrev stage0_0 : Fin 1 → Memref sig .tc .vmem S9x32768x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9x1536x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9x1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9x1536x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S9x1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S9x1x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S9x32768x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S9x32768x128 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S9x1x32768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Words.lean ====
/-
  THE KERNEL'S LOOP COUNTS. Each of the kernel's two passes over the keys is a loop of `⌈w / 256⌉` trips, `w` the number
  of keys that count; the program prints it as two loops, the second of which starts where the first ends and so never
  runs. These are the facts about 32-bit words behind that, and behind the places a trip reads and writes.
-/
module

public import Idealize.ShloMosaic.Lib.ClampedCount
public import Idealize.ShloMosaic.Lib.Scf

@[expose] public section

namespace Cert.Words

open Idealize.ShloMosaic

/-- The number of trips, as a word. -/
def nt (w : BitVec 32) : BitVec 32 := Scalar.divsi (Scalar.addi w 255#32) 256#32

theorem tdiv_cases (a : ℤ) : (0 ≤ a ∧ a.tdiv 256 = a / 256) ∨ (a < 0 ∧ a.tdiv 256 = -(-a / 256)) := by
  rcases Int.le_total 0 a with h | h
  · exact Or.inl ⟨h, Int.tdiv_eq_ediv_of_nonneg h⟩
  · rcases Int.lt_or_eq_of_le h with h | h
    · refine Or.inr ⟨h, ?_⟩
      rw [← Int.tdiv_eq_ediv_of_nonneg (by omega), Int.neg_tdiv, Int.neg_neg]
    · subst h; left; decide

theorem nt_toInt (w : BitVec 32) (h : w.toInt ≤ 1536) : (nt w).toInt = (w.toInt + 255).tdiv 256 := by
  have e : (w + 255#32).toInt = w.toInt + 255 := by
    rw [WordArith.toInt_add_of_bounds]
    · rfl
    · have := BitVec.le_toInt w
      show _ ≤ w.toInt + 255
      omega
    · show w.toInt + 255 < _
      omega
  show (IntOp.divsi .scalar (w + 255#32) 256#32).toInt = _
  unfold IntOp.divsi
  rw [if_neg, BitVec.toInt_sdiv, e]
  · show Int.bmod ((w.toInt + 255).tdiv 256) _ = _
    have := BitVec.le_toInt w
    have := tdiv_cases (w.toInt + 255)
    apply Int.bmod_eq_of_le <;> omega
  · rintro (h | ⟨-, h⟩)
    · exact absurd h (by decide)
    · exact absurd h (by decide)

/-- A loop over the trips runs `⌈w / 256⌉` times (not at all if `w ≤ 0`), … -/
theorem trips_eq (w : BitVec 32) (h : w.toInt ≤ 1536) : Scf.trips 0#32 (nt w) 1#32 = ((w.toInt + 255).tdiv 256).toNat := by
  unfold Scf.trips
  rw [nt_toInt w h, show (0#32 : BitVec 32).toInt = 0 by decide, show (1#32 : BitVec 32).toInt = 1 by decide]
  congr 1
  omega

theorem trips_le (w : BitVec 32) (h : w.toInt ≤ 1536) : Scf.trips 0#32 (nt w) 1#32 ≤ 6 := by
  rw [trips_eq w h]
  have := tdiv_cases (w.toInt + 255)
  omega

/-- … enough for the keys that count. -/
theorem le_trips (w : BitVec 32) (h : w.toInt ≤ 1536) : w.toInt ≤ ((256 * Scf.trips 0#32 (nt w) 1#32 : ℕ) : ℤ) := by
  rw [trips_eq w h]
  have := tdiv_cases (w.toInt + 255)
  omega

theorem ok (w : BitVec 32) (h : w.toInt ≤ 1536) : Scf.OK 0#32 (nt w) 1#32 := by
  have := trips_le w h
  refine ⟨by decide, ?_⟩
  rw [show (0#32 : BitVec 32).toInt = 0 by decide, show (1#32 : BitVec 32).toInt = 1 by decide]
  show _ < (2147483648 : ℤ)
  omega

/-- The loop that starts at its own end does not run. -/
theorem trips_self (x : BitVec 32) : Scf.trips x x 1#32 = 0 := by
  unfold Scf.trips
  rw [show (1#32 : BitVec 32).toInt = 1 by decide]
  omega

theorem ok_self (x : BitVec 32) : Scf.OK x x 1#32 := by
  refine ⟨by decide, ?_⟩
  rw [trips_self]
  have := BitVec.toInt_lt (x := x)
  simpa using this

theorem ub_eq (x : BitVec 32) : Scalar.addi 0#32 (Scalar.muli (Scalar.divsi (Scalar.subi x 0#32) 1#32) 1#32) = x :=
  ClampedCount.ub_norm_step_one 0#32 x

theorem end_eq (x : BitVec 32) : Scalar.addi 0#32 (Scalar.subi x 0#32) = x := by
  show 0#32 + (x - 0#32) = x
  simp

/-- Trip `k`'s first key. -/
theorem mult_toNat (k : ℕ) (h : k < 6) : (Scalar.muli (Scf.iv 0#32 1#32 k) 256#32).toNat = 256 * k := by
  show ((0#32 + BitVec.ofNat 32 k * 1#32) * 256#32).toNat = _
  simp only [BitVec.toNat_add, BitVec.toNat_mul, BitVec.toNat_ofNat]
  omega

end Cert.Words

end
-- ==== Proof.K.Bounds.lean ====
/-
  THE PLACES THE TWO PASSES OVER THE KEYS VISIT. Trip `k` of either loop is at key `256 k`, and if at most 1536 keys
  count there are at most six trips: every place is inside its array, which is all the body asks of the word it reads.
-/
module

public import proofs.«01_k».proof.Kernel
public import proofs.«01_k».proof.Proof.Words

@[expose] public section

set_option maxRecDepth 8192

namespace Cert.Kernel.Gen

open Idealize.ShloMosaic Idealize.ShloMosaic.TcCoe Cert.Words

/-! ## The loops' bounds -/

theorem t1_loop_eq (w : BitVec 32) : k0_t1_loop w = ⟨0#32, nt w, 1#32⟩ :=
  congrArg (fun u => (⟨0#32, u, 1#32⟩ : Scf.Loop 32)) (ub_eq (nt w))

theorem t3_loop_eq (w : BitVec 32) : k0_t3_loop w = ⟨0#32, nt w, 1#32⟩ :=
  congrArg (fun u => (⟨0#32, u, 1#32⟩ : Scf.Loop 32)) (ub_eq (nt w))

theorem t2_loop_eq (w : BitVec 32) : k0_t2_loop w = ⟨nt w, nt w, 1#32⟩ :=
  congrArg₂ (fun u v => (⟨u, v, 1#32⟩ : Scf.Loop 32)) (ub_eq (nt w)) (end_eq (nt w))

theorem t4_loop_eq (w : BitVec 32) : k0_t4_loop w = ⟨nt w, nt w, 1#32⟩ :=
  congrArg₂ (fun u v => (⟨u, v, 1#32⟩ : Scf.Loop 32)) (ub_eq (nt w)) (end_eq (nt w))

theorem t1_trips (w : BitVec 32) : (k0_t1_loop w).trips = Scf.trips 0#32 (nt w) 1#32 := by rw [t1_loop_eq]
theorem t3_trips (w : BitVec 32) : (k0_t3_loop w).trips = Scf.trips 0#32 (nt w) 1#32 := by rw [t3_loop_eq]
theorem t2_trips (w : BitVec 32) : (k0_t2_loop w).trips = 0 := by rw [t2_loop_eq]; exact trips_self _
theorem t4_trips (w : BitVec 32) : (k0_t4_loop w).trips = 0 := by rw [t4_loop_eq]; exact trips_self _

theorem off2_eq (w : BitVec 32) (k : Fin (k0_t1_loop w).trips) (hk : k.val < 6) : k0_off2 w k = ![0, 256 * k.val, 0] :=
  congrArg (fun u => ![0, u, 0]) (mult_toNat k.val hk)
theorem off3_eq (w : BitVec 32) (k : Fin (k0_t1_loop w).trips) (hk : k.val < 6) : k0_off3 w k = ![256 * k.val, 0] :=
  congrArg (fun u => ![u, 0]) (mult_toNat k.val hk)
theorem off6_eq (w : BitVec 32) (k : Fin (k0_t3_loop w).trips) (hk : k.val < 6) : k0_off6 w k = ![256 * k.val, 0] :=
  congrArg (fun u => ![u, 0]) (mult_toNat k.val hk)
theorem off7_eq (w : BitVec 32) (k : Fin (k0_t3_loop w).trips) (hk : k.val < 6) : k0_off7 w k = ![0, 0, 256 * k.val] :=
  congrArg (fun u => ![0, 0, u]) (mult_toNat k.val hk)

/-- The number of keys being at most 1536 is all the body asks of it. -/
theorem chk1_of (w : BitVec 32) (h : w.toInt ≤ 1536) : k0_chk1 w := by
  have h6 := trips_le w h
  have hk1 : ∀ k : Fin (k0_t1_loop w).trips, k.val < 6 := fun k => lt_of_lt_of_le k.isLt (by rw [t1_trips]; exact h6)
  have hk3 : ∀ k : Fin (k0_t3_loop w).trips, k.val < 6 := fun k => lt_of_lt_of_le k.isLt (by rw [t3_trips]; exact h6)
  have hk2 : ∀ k : Fin (k0_t2_loop w).trips, False := fun k => by
    have h1 := k.isLt
    have h2 := t2_trips w
    omega
  have hk4 : ∀ k : Fin (k0_t4_loop w).trips, False := fun k => by
    have h1 := k.isLt
    have h2 := t4_trips w
    omega
  refine ⟨by rw [t1_loop_eq]; exact ok w h, fun k => ?_, fun k => ?_, fun k => ?_, by rw [t2_loop_eq]; exact ok_self _,
    fun k => (hk2 k).elim, fun k => (hk2 k).elim, fun k => (hk2 k).elim, by rw [t3_loop_eq]; exact ok w h, fun k => ?_, fun k => ?_, fun k => ?_,
    by rw [t4_loop_eq]; exact ok_self _, fun k => (hk4 k).elim, fun k => (hk4 k).elim, fun k => (hk4 k).elim⟩
  · exact ⟨k.val, mult_toNat k.val (hk1 k)⟩
  · have := hk1 k
    rw [off2_eq w k (hk1 k)]
    intro a; fin_cases a
    · show 0 + 1 ≤ 1; omega
    · show 256 * k.val + 256 ≤ 1536; omega
    · show 0 + 128 ≤ 128; omega
  · have := hk1 k
    rw [off3_eq w k (hk1 k)]
    intro a; fin_cases a
    · show 256 * k.val + 256 ≤ 1536; omega
    · show 0 + 256 ≤ 256; omega
  · exact ⟨k.val, mult_toNat k.val (hk3 k)⟩
  · have := hk3 k
    rw [off6_eq w k (hk3 k)]
    intro a; fin_cases a
    · show 256 * k.val + 256 ≤ 1536; omega
    · show 0 + 256 ≤ 256; omega
  · have := hk3 k
    rw [off7_eq w k (hk3 k)]
    intro a; fin_cases a
    · show 0 + 1 ≤ 1; omega
    · show 0 + 128 ≤ 128; omega
    · show 256 * k.val + 256 ≤ 1536; omega

end Cert.Kernel.Gen

end
-- ==== Proof.K.Points.lean ====
/-
  THE KERNEL'S SCHEDULE: which grid points fetch and flush each window, and which staging buffer each uses.
-/
module

public import proofs.«01_k».proof.Proof.Gen.Kernel
public import Idealize.ShloMosaic.Lib.Pipeline.Kit

@[expose] public section

noncomputable section

namespace Cert.Kernel.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 1 (fun _ => rfl) (by decide)) (P := 1) (by decide) t).mpr (Nat.mod_one _) : ∀ t : Fin grid0.N, Pipeline.Window.fetchOf grid0 false cc0_transform_0 t = true)
/-- Window 1 (operand 2 (%1)) is fetched at the points ≡ 0 (mod 128), at any contents of the tables (its index map reads none). -/
theorem fetch0_1 (a : (pcfg0 (F := F)).Adm) : ∀ t : Fin (cfg0 a).N, ((cfg0 a).win 1).fetch t = true ↔ t.val % 128 = 0 :=
  (fun t => Pipeline.Window.fetchOf_reads cc0_transform_1 reads0_1 hreads0_1 0 (by decide) (by decide) (Pipeline.Window.sep_of_coord cc0_transform_1 0 0 (fun _ => rfl) (by decide)) (P := 128) (by decide) t : ∀ t : Fin grid0.N, Pipeline.Window.fetchOf grid0 false cc0_transform_1 t = true ↔ t.val % 128 = 0)
/-- Window 2 (operand 3 (%5)) is fetched at the points ≡ 0 (mod 128), at any contents of the tables (its index map reads none). -/
theorem fetch0_2 (a : (pcfg0 (F := F)).Adm) : ∀ t : Fin (cfg0 a).N, ((cfg0 a).win 2).fetch t = true ↔ t.val % 128 = 0 :=
  (fun t => Pipeline.Window.fetchOf_reads cc0_transform_2 reads0_2 hreads0_2 0 (by decide) (by decide) (Pipeline.Window.sep_of_coord cc0_transform_2 0 0 (fun _ => rfl) (by decide)) (P := 128) (by decide) t : ∀ t : Fin grid0.N, Pipeline.Window.fetchOf grid0 false cc0_transform_2 t = true ↔ t.val % 128 = 0)
/-- Window 3 (operand 4 (%7)) is fetched at the points ≡ 0 (mod 128), at any contents of the tables (its index map reads none). -/
theorem fetch0_3 (a : (pcfg0 (F := F)).Adm) : ∀ t : Fin (cfg0 a).N, ((cfg0 a).win 3).fetch t = true ↔ t.val % 128 = 0 :=
  (fun t => Pipeline.Window.fetchOf_reads cc0_transform_3 reads0_3 hreads0_3 0 (by decide) (by decide) (Pipeline.Window.sep_of_coord cc0_transform_3 0 0 (fun _ => rfl) (by decide)) (P := 128) (by decide) t : ∀ t : Fin grid0.N, Pipeline.Window.fetchOf grid0 false cc0_transform_3 t = true ↔ t.val % 128 = 0)
/-- Window 4 (operand 5 (%8)) is fetched at the first point only, at any contents of the tables (its index map reads none). -/
theorem fetch0_4 (a : (pcfg0 (F := F)).Adm) : ∀ t : Fin (cfg0 a).N, ((cfg0 a).win 4).fetch t = true ↔ t.val % 1152 = 0 :=
  (fun t => Pipeline.Window.fetchOf_const cc0_transform_4 (fun _ _ => rfl) (n := 1152) (by decide) t : ∀ t : Fin grid0.N, Pipeline.Window.fetchOf grid0 false cc0_transform_4 t = true ↔ t.val % 1152 = 0)
/-- Window 5 (result 0 (%9#0)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 1 (by decide) (by decide) (Pipeline.Window.sep_of_coord cc0_transform_5 1 1 (fun _ => rfl) (by decide)) (P := 1) (m := 0) (by decide) rfl t).mpr (Nat.mod_one _) : ∀ t : Fin grid0.N, Pipeline.Window.flushOf grid0 true cc0_transform_5 t = true)
/-- Window 6 (result 1 (%9#1)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 1 (by decide) (by decide) (Pipeline.Window.sep_of_coord cc0_transform_6 1 1 (fun _ => rfl) (by decide)) (P := 1) (m := 0) (by decide) rfl t).mpr (Nat.mod_one _) : ∀ t : Fin grid0.N, Pipeline.Window.flushOf grid0 true cc0_transform_6 t = true)
/-- Window 7 (result 2 (%9#2)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 1 (by decide) (by decide) (Pipeline.Window.sep_of_coord cc0_transform_7 1 2 (fun _ => rfl) (by decide)) (P := 1) (m := 0) (by decide) rfl t).mpr (Nat.mod_one _) : ∀ t : Fin grid0.N, Pipeline.Window.flushOf grid0 true cc0_transform_7 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_fp8_gqa (grid0.coords t) (Memref.whole main_arg5) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _)

end Cert.Kernel.Gen

end
-- ==== Proof.K.Runs.lean ====
/-
  WHAT THE RUNS OF THE KERNEL SHARE: what the host leaves in each array, the prefetched lengths, each window's block at a
  point, and the side conditions the body assumes of the length it reads.
-/
module

public import proofs.«01_k».proof.Proof.Gen.Kernel.Launch
public import proofs.«01_k».proof.Proof.Gen.Kernel.Skeleton
public import proofs.«01_k».proof.Proof.Gen.Kernel.Loops
public import proofs.«01_k».proof.Proof.K.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S9 .i32 := Memref.whole main_arg5
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x256x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1536x128 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1536x128 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x128x1536 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .smem S9 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x256x128 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x256x128 .fp8e4m3 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1x256 .f32 := spec0_7.stage ((cfgM m hO).slots t 7)
abbrev hs0_7 (hO : Ok m) (t : Fin (cfgM m hO).N) : (ms0_7 m hO t).IsWhole := hstage0_7 (((cfgM m hO).slots t 7).cast nbuf0_7)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (tbM0_0.view.readAt (Elt F) (Rect.unit (s := S9) (k0_off1 (grid0.coords t)) S1.size (k0_off1_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (tbM0_0.view.readAt (Elt F) (Rect.unit (s := S9) (k0_off1 (grid0.coords t)) S1.size (k0_off1_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (tbM0_0.view.readAt (Elt F) (Rect.unit (s := S9) (k0_off1 (grid0.coords t)) S1.size (k0_off1_inb (grid0.coords t))).toLoadRect (tbl m 0) (Shape.Idx.first (numel1_S1.symm ▸ Nat.one_pos))) := (hH c t)
variable {m} in
theorem Hyps.of {hO : Ok m}
    (p0 : ∀ (c : Dev nD) (t : Fin (cfgM m hO).N), Hyps.p0 m hO c t) :
    Hyps m hO := fun c t =>
  p0 c t

/-- The scratch operands: whole scoped buffers of the kernel's own, passed beside the windows. -/
abbrev scM0_0 : Memref sig .tc .vmem S1536x256 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Gen

end
-- ==== Proof.K.Run.lean ====
/-
  THE KERNEL'S BODY, RUN ONCE: from its staging buffers, its scratch and the prefetched lengths, at any grid point, the
  body reaches its end with every buffer still held. The outputs' contents are not named.
-/
module

public import proofs.«01_k».proof.Proof.K.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the FORGOTTEN outputs' (5, 6, 7) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg3 : Memref sig .tc .vmem S1x256x128 .bf16) (harg3 : arg3.IsWhole) (arg4 : Memref sig .tc .vmem S1x1536x128 .fp8e4m3) (harg4 : arg4.IsWhole) (arg5 : Memref sig .tc .vmem S1x1536x128 .f32) (harg5 : arg5.IsWhole) (arg6 : Memref sig .tc .vmem S1x128x1536 .fp8e4m3) (harg6 : arg6.IsWhole) (arg7 : Memref sig .tc .smem S9 .f32) (harg7 : arg7.IsWhole) (arg8 : Memref sig .tc .vmem S1x256x128 .bf16) (harg8 : arg8.IsWhole) (arg9 : Memref sig .tc .vmem S1x256x128 .fp8e4m3) (harg9 : arg9.IsWhole) (arg10 : Memref sig .tc .vmem S1x1x256 .f32) (harg10 : arg10.IsWhole) (arg11 : Memref sig .tc .vmem S1536x256 .f32) (harg11 : arg11.IsWhole)
    (x0 : Vec F S1x256x128 .bf16) (x1 : Vec F S1x1536x128 .fp8e4m3) (x2 : Vec F S1x1536x128 .f32) (x3 : Vec F S1x128x1536 .fp8e4m3) (x4 : Vec F S9 .f32) (xt0 : TbBuf0 (F := F) c tbM0_0) (k0_hw1 : k0_chk1 (tbM0_0.view.readAt (Elt F) (Rect.unit (s := S9) (k0_off1 i) S1.size (k0_off1_inb i)).toLoadRect xt0 (Shape.Idx.first (numel1_S1.symm ▸ Nat.one_pos)))) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ tbPt0 c tbM0_0 xt0) -∗ K ⟨⟩))
          ⊢ wp frame (wpE (defs₀ (F := F)) Variants.none c none) E (cc0_fp8_gqa i tbM0_0 htbM0_0 arg3 harg3 arg4 harg4 arg5 harg5 arg6 harg6 arg7 harg7 arg8 harg8 arg9 harg9 arg10 harg10 arg11 harg11) K := by
    intro E K
    simp only [cc0_fp8_gqa_eq_skeleton]; unfold cc0_fp8_gqa_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, HT0, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    iexact HT0

end Cert.Kernel.Gen

end
-- ==== Proof.K.Frame.lean ====
/-
  THE KERNEL'S FRAME: it runs to its end with its arguments unchanged and every semaphore at zero, whenever the lengths
  satisfy the body's side conditions. What it leaves in its outputs is not named here.
-/
module

public import proofs.«01_k».proof.Proof.K.Run
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (5, 6, 7): nothing reads what the kernel leaves in them, so nothing
    of it is named (Lib/Pipeline/Dat.lean `Dat.toRForget`). -/
def forgets0 : Fin 8 → Bool := fun w => w.val == 5 || w.val == 6 || w.val == 7

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, h⟩ => Pipeline.Dat.unnamed (cfg := (cfgM m hO)) ⟨5, h⟩ t
    | ⟨6, h⟩ => Pipeline.Dat.unnamed (cfg := (cfgM m hO)) ⟨6, h⟩ t
    | ⟨7, h⟩ => Pipeline.Dat.unnamed (cfg := (cfgM m hO)) ⟨7, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare d)
    ∗ (∃ d, owns (c : Thread nD τ) (ms0_6 m hO t) fullShare d)
    ∗ (∃ d, owns (c : Thread nD τ) (ms0_7 m hO t) fullShare d))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ (∃ d, owns (c : Thread nD τ) (ms0_5 m hO t) fullShare d)
    ∗ (∃ d, owns (c : Thread nD τ) (ms0_6 m hO t) fullShare d)
    ∗ (∃ d, owns (c : Thread nD τ) (ms0_7 m hO t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3, after0_4]
  rw [show (dats m hO hH 0 c).Φ t.castSucc = iprop(Pipeline.ΦA spec0 c ∗ Pipeline.ΦT pre0 (tbl m) c) from rfl, PhiT0_eq, PhiA0_eq]
  iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ (iblk m hO c 0 t) (iblk m hO c 1 t) (iblk m hO c 2 t) (iblk m hO c 3 t) (iblk m hO c 4 t) (tbl m 0) (Hyps.c0 hH c t)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  isplitl [HT0]; · iexact HT0
  iintro ⟨H0, H1, H2, H3, H4, H5, H6, H7, HS0, HT0⟩
  isplitl [HS0 Hg HT0]
  · isplitl [HS0 Hg]
    · isplitl [HS0]
      · iexact HS0
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.RDat.FramePost ((Pipeline.pin pcfgs fun _ => adm m hO) 0) (fun c => (dats m hO hH 0 c).toRForget forgets0) (V m)) r ∧ r.2.sem = fun _ => 0) :=
  Pipeline.θ_run_frameP_forget (Q' := _) pcfgs (fun _ => adm m hO) (dats m hO hH) (0 : Fin 1) launch0 defs₀ Variants.none forgets0 m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 5, 6, 7) (Lib/Pipeline/Frame.lean `RDat.FramePost` over the proof data with those windows
    forgotten, Dat.lean `Dat.toRForget`), and every other unscoped buffer at its region-entry contents. -/
theorem run_main (hO : Ok m) (hH : Hyps m hO) : θ_run defs (onTc (τ := τ) (main (F := F))) (s₀ m ρ) (Pipeline.RDat.FramePost ((Pipeline.pin pcfgs fun _ => adm m hO) 0) (fun c => (dats m hO hH 0 c).toRForget forgets0) (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (fun c => (dats m hO hH 0 c).toRForget forgets0) (A_eq m hO hH) (run_main m ρ hO hH)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`; here for every contents of the PREFETCHED TABLES, UNDER `Gen.Ok m` (the pipeline's side condition of
    them) and `Gen.Hyps m hO` (the side conditions the body assumes, at every point), which Proof.lean proves from the precondition: `⟨…, fun m ρ h => Cert.Kernel.Gen.frame m ρ (ok_of_pre m h) (hyps_of_pre m h _)⟩`. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO hH) ((θ_run defs _ _).mono (fun _ h => h.2) (run_main_quiescent m ρ hO hH))

end Cert.Kernel.Gen

end
-- ==== Proof.Quant.lean ====
/-
  THE QUANTISER'S EXPONENT, as a statement about one extended real. The kernel finds the exponent of a row's largest
  magnitude `a` by a binary search over the thresholds `1.75 · 2^(t-128)`, eight comparisons, and forms the power of
  two from the integer it finds. Here: the search returns the last threshold not above `a`, so that the power of two
  is the one the reference writes with a logarithm, `2 ^ (⌊log2 (a / 448)⌋ + 1)`.
-/
module

public import Idealize.ShloMosaic.PureOps.Ideal
public import Idealize.ShloMosaic.PureOps.Ideal.Laws
public import Idealize.ShloMosaic.Lib.ValueIdx

@[expose] public section

noncomputable section

namespace Cert.Quant

open Idealize.ShloMosaic

/-- The threshold of biased exponent `b`: the float whose bits are `(b << 23) - (32 << 16)`. -/
def thr (b : BitVec 32) : EReal := Ideal.ofBits .f32 (IntOp.subi (IntOp.shli .vector b 23#32) 2097152#32)

/-- One comparison of the search: keep `t` when `a` is below the threshold of `t + b`, else take `t + b`. -/
def step (a : EReal) (t b : BitVec 32) : BitVec 32 :=
  Scalar.select (FloatOps.cmpf (F := Ideal) (φ := .f32) .olt a (thr (IntOp.addi t b))) t (IntOp.addi t b)

/-- The search's first seven comparisons … -/
def biased7 (a : EReal) : BitVec 32 :=
  step a (step a (step a (step a (step a (step a (step a 0#32 128#32) 64#32) 32#32) 16#32) 8#32) 4#32) 2#32

/-- … and all eight of them. -/
def biased (a : EReal) : BitVec 32 := step a (biased7 a) 1#32

/-- The exponent taken from the biased one: zero for a row of zeros. -/
def kexp (t : BitVec 32) : BitVec 32 := Scalar.select (IntOp.cmpi .slt t 10#32) 0#32 (IntOp.subi t 135#32)

/-- The kernel's power of two … -/
def kscale (a : EReal) : EReal := Ideal.ofBits .f32 (IntOp.shli .vector (IntOp.addi (kexp (biased a)) 127#32) 23#32)

/-- … and its reciprocal. -/
def kinv (a : EReal) : EReal :=
  Ideal.ofBits .f32 (IntOp.shli .vector (IntOp.addi (IntOp.subi 0#32 (kexp (biased a))) 127#32) 23#32)

/-- What a positive pattern denotes, from its exponent field `ex` and its fraction `fr`. -/
theorem ofBits_fields (b : BitVec 32) (ex fr : ℕ) (h : b.toNat = ex * 2 ^ 23 + fr) (hf : fr < 2 ^ 23) (he : ex < 255) :
    Ideal.ofBits .f32 b = if ex = 0 then ((1 * fr * (2 : ℝ) ^ (1 - (2 ^ (8 - 1) - 1) - (23 : ℕ) : ℤ) : ℝ) : EReal)
      else ((1 * (2 ^ 23 + fr : ℕ) * (2 : ℝ) ^ ((ex : ℤ) - (2 ^ (8 - 1) - 1) - (23 : ℕ)) : ℝ) : EReal) := by
  have h2 : (b.extractLsb' 23 8).toNat = ex := by
    rw [BitVec.extractLsb'_toNat, h, Nat.shiftRight_eq_div_pow]; omega
  have h3 : (b.extractLsb' 0 23).toNat = fr := by
    rw [BitVec.extractLsb'_toNat, h, Nat.shiftRight_eq_div_pow]; omega
  have h1 : (b.extractLsb' 31 1 == 1#1) = false := by
    rw [beq_eq_false_iff_ne]
    intro hc
    have hc := congrArg BitVec.toNat hc
    rw [BitVec.extractLsb'_toNat, h, Nat.shiftRight_eq_div_pow] at hc
    have e1 : (1#1 : BitVec 1).toNat = 1 := rfl
    omega
  show Ideal.ieee 8 23 b = _
  unfold Ideal.ieee
  simp only [Nat.reduceAdd, h1, h2, h3, Bool.false_eq_true, if_false]
  rw [if_neg (by omega)]

theorem shl23 (x : BitVec 32) (n : ℕ) (h : x.toNat = n) (hn : n < 256) : (IntOp.shli .vector x 23#32).toNat = n * 2 ^ 23 := by
  unfold IntOp.shli
  rw [if_pos (by decide), BitVec.shiftLeft_eq', BitVec.toNat_shiftLeft, h, Nat.shiftLeft_eq]
  have e1 : (23#32 : BitVec 32).toNat = 23 := rfl
  rw [e1]
  omega

theorem thr_toNat (n : ℕ) (h : 1 ≤ n) (hn : n < 256) :
    (IntOp.subi (IntOp.shli .vector (BitVec.ofNat 32 n) 23#32) 2097152#32).toNat = (n - 1) * 2 ^ 23 + 6291456 := by
  have e := shl23 (BitVec.ofNat 32 n) n (by rw [BitVec.toNat_ofNat]; omega) hn
  have e1 : (2097152#32 : BitVec 32).toNat = 2097152 := rfl
  unfold IntOp.subi
  rw [BitVec.toNat_sub, e, e1]
  omega

theorem thr_two_le (n : Fin 256) (h : 2 ≤ n.val) :
    thr (BitVec.ofNat 32 n.val) = ((7 / 4 * (2 : ℝ) ^ ((n.val : ℤ) - 128) : ℝ) : EReal) := by
  have hn := n.isLt
  unfold thr
  rw [ofBits_fields _ _ _ (thr_toNat n.val (by omega) hn) (by norm_num) (by omega), if_neg (by omega)]
  congr 1
  have e : ((n.val - 1 : ℕ) : ℤ) - (2 ^ (8 - 1) - 1) - (23 : ℕ) = ((n.val : ℤ) - 128) + (-23) := by
    rw [Nat.cast_sub (by omega)]; norm_num; ring
  rw [e, zpow_add₀ (by norm_num)]
  norm_num
  ring

theorem thr_one : thr (BitVec.ofNat 32 1) = ((3 / 4 * (2 : ℝ) ^ (-126 : ℤ) : ℝ) : EReal) := by
  unfold thr
  rw [ofBits_fields _ _ _ (thr_toNat 1 (by omega) (by omega)) (by norm_num) (by omega), if_pos rfl]
  congr 1
  norm_num

/-- The bits `f << 23` are the power of two `2 ^ (f - 127)`. -/
theorem ofBits_pow (x : BitVec 32) (f : ℕ) (hx : x.toNat = f) (h : 1 ≤ f) (hf : f < 255) :
    Ideal.ofBits .f32 (IntOp.shli .vector x 23#32) = (((2 : ℝ) ^ ((f : ℤ) - 127) : ℝ) : EReal) := by
  rw [ofBits_fields _ f 0 (by rw [shl23 x f hx (by omega), Nat.add_zero]) (by norm_num) (by omega), if_neg (by omega)]
  congr 1
  have e : ((f : ℕ) : ℤ) - (2 ^ (8 - 1) - 1) - (23 : ℕ) = ((f : ℤ) - 127) + (-23) := by
    norm_num; ring
  rw [e, zpow_add₀ (by norm_num)]
  norm_num
  ring

/-- The search finds `c` when exactly the thresholds above `c` are above `a`. -/
theorem step_eq {a : EReal} {c : ℕ} (H : ∀ n : Fin 256, 1 ≤ n.val → (a < thr (BitVec.ofNat 32 n.val) ↔ c < n.val))
    (t b : ℕ) (h1 : 1 ≤ t + b) (h2 : t + b < 256) :
    step a (BitVec.ofNat 32 t) (BitVec.ofNat 32 b) = BitVec.ofNat 32 (if c < t + b then t else t + b) := by
  have e : IntOp.addi (BitVec.ofNat 32 t) (BitVec.ofNat 32 b) = BitVec.ofNat 32 (t + b) := by
    show BitVec.ofNat 32 t + BitVec.ofNat 32 b = _
    rw [BitVec.ofNat_add]
  unfold step
  rw [e]
  have := H ⟨t + b, h2⟩ h1
  show Scalar.select (Ideal.cmp .olt _ _) _ _ = _
  unfold Ideal.cmp
  simp only at this ⊢
  by_cases hc : c < t + b
  · rw [if_pos hc, decide_eq_true (this.2 hc)]; rfl
  · rw [if_neg hc, decide_eq_false (fun h => hc (this.1 h))]; rfl

/-- One comparison halves the interval `c` is known to lie in. -/
theorem step_halves {a : EReal} {c : ℕ} (H : ∀ n : Fin 256, 1 ≤ n.val → (a < thr (BitVec.ofNat 32 n.val) ↔ c < n.val))
    {x : BitVec 32} (b : ℕ) (hb : 1 ≤ b) (hx : ∃ t, x = BitVec.ofNat 32 t ∧ t ≤ c ∧ c < t + 2 * b ∧ t + 2 * b ≤ 256) :
    ∃ t, step a x (BitVec.ofNat 32 b) = BitVec.ofNat 32 t ∧ t ≤ c ∧ c < t + b ∧ t + b ≤ 256 := by
  obtain ⟨t, rfl, h1, h2, h3⟩ := hx
  refine ⟨_, step_eq H t b (by omega) (by omega), ?_, ?_, ?_⟩ <;> split_ifs <;> omega

theorem biased_eq {a : EReal} {c : ℕ} (hc : c < 256)
    (H : ∀ n : Fin 256, 1 ≤ n.val → (a < thr (BitVec.ofNat 32 n.val) ↔ c < n.val)) :
    biased a = BitVec.ofNat 32 c := by
  have h0 : ∃ t, (0#32 : BitVec 32) = BitVec.ofNat 32 t ∧ t ≤ c ∧ c < t + 2 * 128 ∧ t + 2 * 128 ≤ 256 :=
    ⟨0, rfl, by omega, by omega, by omega⟩
  have h7 := step_halves H 128 (by omega) h0
  have h6 := step_halves H 64 (by omega) h7
  have h5 := step_halves H 32 (by omega) h6
  have h4 := step_halves H 16 (by omega) h5
  have h3 := step_halves H 8 (by omega) h4
  have h2 := step_halves H 4 (by omega) h3
  have h1 := step_halves H 2 (by omega) h2
  obtain ⟨t, e, a1, a2, -⟩ := step_halves H 1 (by omega) h1
  have : t = c := by omega
  subst this
  exact e

theorem kexp_toNat (c : ℕ) (h : 10 ≤ c) (hc : c < 256) :
    (IntOp.addi (kexp (BitVec.ofNat 32 c)) 127#32).toNat = c - 8 ∧
    (IntOp.addi (IntOp.subi 0#32 (kexp (BitVec.ofNat 32 c))) 127#32).toNat = 262 - c := by
  have e0 : (BitVec.ofNat 32 c).toNat = c := by rw [BitVec.toNat_ofNat]; omega
  have e1 : (135#32 : BitVec 32).toNat = 135 := rfl
  have e2 : (127#32 : BitVec 32).toNat = 127 := rfl
  have e3 : (0#32 : BitVec 32).toNat = 0 := rfl
  have e4 : kexp (BitVec.ofNat 32 c) = BitVec.ofNat 32 c - 135#32 := by
    have : (BitVec.ofNat 32 c).slt 10#32 = false := by
      rw [BitVec.slt, decide_eq_false_iff_not, BitVec.toInt_eq_toNat_cond, e0, if_pos (by omega)]
      have : (10#32 : BitVec 32).toInt = 10 := rfl
      omega
    unfold kexp
    show Scalar.select (BitVec.ofBool ((BitVec.ofNat 32 c).slt 10#32)) _ _ = _
    rw [this]
    rfl
  rw [e4]
  unfold IntOp.addi IntOp.subi
  constructor
  · rw [BitVec.toNat_add, BitVec.toNat_sub, e0, e1, e2]; omega
  · rw [BitVec.toNat_add, BitVec.toNat_sub, BitVec.toNat_sub, e0, e1, e2, e3]; omega

theorem step_le (a : EReal) {x : BitVec 32} {n : ℕ} (b : ℕ) (hx : ∃ t, x = BitVec.ofNat 32 t ∧ t ≤ n) :
    ∃ t, step a x (BitVec.ofNat 32 b) = BitVec.ofNat 32 t ∧ t ≤ n + b := by
  obtain ⟨t, rfl, h⟩ := hx
  have e : IntOp.addi (BitVec.ofNat 32 t) (BitVec.ofNat 32 b) = BitVec.ofNat 32 (t + b) := by
    show BitVec.ofNat 32 t + BitVec.ofNat 32 b = _
    rw [BitVec.ofNat_add]
  unfold step
  rw [e]
  unfold Scalar.select
  split_ifs
  · exact ⟨t, rfl, by omega⟩
  · exact ⟨t + b, rfl, by omega⟩

/-- Whatever the row, the search ends at a biased exponent below 256 … -/
theorem biased_lt (a : EReal) : ∃ c, biased a = BitVec.ofNat 32 c ∧ c < 256 := by
  have h0 : ∃ t, (0#32 : BitVec 32) = BitVec.ofNat 32 t ∧ t ≤ 0 := ⟨0, rfl, le_refl _⟩
  have h := step_le a 1 (step_le a 2 (step_le a 4 (step_le a 8 (step_le a 16 (step_le a 32 (step_le a 64 (step_le a 128 h0)))))))
  obtain ⟨t, e, ht⟩ := h
  exact ⟨t, e, by omega⟩

theorem kexp_small (c : ℕ) (h : c < 10) : kexp (BitVec.ofNat 32 c) = 0#32 := by
  have e0 : (BitVec.ofNat 32 c).toNat = c := by rw [BitVec.toNat_ofNat]; omega
  have : (BitVec.ofNat 32 c).slt 10#32 = true := by
    rw [BitVec.slt, decide_eq_true_iff, BitVec.toInt_eq_toNat_cond, e0, if_pos (by omega)]
    have : (10#32 : BitVec 32).toInt = 10 := rfl
    omega
  unfold kexp
  show Scalar.select (BitVec.ofBool ((BitVec.ofNat 32 c).slt 10#32)) _ _ = _
  rw [this]
  rfl

/-- … so that its power of two is a positive real. -/
theorem kscale_pos (a : EReal) : ∃ s : ℝ, 0 < s ∧ kscale a = (s : EReal) := by
  obtain ⟨c, hc, h⟩ := biased_lt a
  unfold kscale
  rw [hc]
  by_cases h10 : c < 10
  · rw [kexp_small c h10, ofBits_pow _ 127 (by decide) (by norm_num) (by norm_num)]
    exact ⟨_, by positivity, rfl⟩
  · rw [ofBits_pow _ (c - 8) (kexp_toNat c (by omega) h).1 (by omega) (by omega)]
    exact ⟨_, by positivity, rfl⟩

/-- The reference's exponent of `a`, before the power of two: zero at `a = 0`, else `⌊log (a / 448) / log 2⌋ + 1`. -/
def rexp (a : EReal) : EReal :=
  Scalar.select (FloatOps.cmpf (F := Ideal) (φ := .f32) .oeq a 0) 0
    (Ideal.liftRound Int.floor (Ideal.div (Ideal.log (a * ((1 / 448 : ℝ) : EReal))) ((Real.log 2 : ℝ) : EReal)) + 1)

/-- The largest finite float. -/
def fmax : ℝ := (2 ^ 24 - 1 : ℕ) * 2 ^ (104 : ℕ)

/-- What the kernel's exponent is stated for: no magnitude at all, or one between `448 · 2^-126` and the largest float. -/
def InRange (a : EReal) : Prop := a = 0 ∨ ∃ r : ℝ, a = (r : EReal) ∧ 448 * (2 : ℝ) ^ (-126 : ℤ) ≤ r ∧ r ≤ fmax

theorem biased_zero : biased 0 = BitVec.ofNat 32 0 := by
  refine biased_eq (by omega) fun n hn => iff_of_true ?_ hn
  by_cases h : 2 ≤ n.val
  · rw [thr_two_le n h]
    exact_mod_cast (by positivity : (0 : ℝ) < 7 / 4 * (2 : ℝ) ^ ((n.val : ℤ) - 128))
  · rw [show n.val = 1 by omega, thr_one]
    exact_mod_cast (by positivity : (0 : ℝ) < 3 / 4 * (2 : ℝ) ^ (-126 : ℤ))

/-- The floor of the base-two logarithm. -/
def flog (x : ℝ) : ℤ := ⌊Real.log x * (1 / Real.log 2)⌋

theorem le_flog (n : ℤ) {x : ℝ} (hx : 0 < x) : n ≤ flog x ↔ (2 : ℝ) ^ n ≤ x := by
  have h2 : (0 : ℝ) < Real.log 2 := Real.log_pos (by norm_num)
  unfold flog
  rw [Int.le_floor, mul_one_div, le_div_iff₀ h2, ← Real.log_zpow, Real.log_le_log_iff (by positivity) hx]

theorem flog_lt (n : ℤ) {x : ℝ} (hx : 0 < x) : flog x < n ↔ x < (2 : ℝ) ^ n := by
  rw [← not_le, ← not_le, le_flog n hx]

/-- The search on a magnitude in range: `j + 136` where `2^j ≤ r / 448 < 2^(j+1)`. -/
theorem biased_pos (r : ℝ) (h1 : 448 * (2 : ℝ) ^ (-126 : ℤ) ≤ r) (h2 : r ≤ fmax) :
    ∃ c : ℕ, 10 ≤ c ∧ c < 256 ∧ flog (r / 448) = (c : ℤ) - 136 ∧ biased (r : EReal) = BitVec.ofNat 32 c := by
  have hr : 0 < r / 448 := by
    have : (0 : ℝ) < 448 * (2 : ℝ) ^ (-126 : ℤ) := by positivity
    linarith
  have a1 : (-126 : ℤ) ≤ flog (r / 448) := by
    rw [le_flog _ hr, le_div_iff₀ (by norm_num), mul_comm]
    exact h1
  have a2 : flog (r / 448) < 120 := by
    rw [flog_lt _ hr]
    unfold fmax at h2
    norm_num at h2 ⊢
    linarith
  obtain ⟨c, hc⟩ : ∃ c : ℕ, (c : ℤ) = flog (r / 448) + 136 := ⟨(flog (r / 448) + 136).toNat, by omega⟩
  refine ⟨c, by omega, by omega, by omega, biased_eq (by omega) fun n hn => ?_⟩
  by_cases h : 2 ≤ n.val
  · rw [thr_two_le n h, EReal.coe_lt_coe_iff]
    have e : (7 / 4 * (2 : ℝ) ^ ((n.val : ℤ) - 128)) = 448 * (2 : ℝ) ^ ((n.val : ℤ) - 136) := by
      rw [show (n.val : ℤ) - 128 = ((n.val : ℤ) - 136) + 8 by ring, zpow_add₀ (by norm_num)]
      norm_num; ring
    have e2 : r < 448 * (2 : ℝ) ^ ((n.val : ℤ) - 136) ↔ r / 448 < (2 : ℝ) ^ ((n.val : ℤ) - 136) := by
      rw [div_lt_iff₀ (by norm_num), mul_comm]
    have e3 : r / 448 < (2 : ℝ) ^ ((n.val : ℤ) - 136) ↔ flog (r / 448) < (n.val : ℤ) - 136 := (flog_lt _ hr).symm
    rw [e, e2, e3]
    omega
  · rw [show n.val = 1 by omega, thr_one, EReal.coe_lt_coe_iff]
    refine iff_of_false ?_ (by omega)
    have : (3 / 4 * (2 : ℝ) ^ (-126 : ℤ)) ≤ 448 * (2 : ℝ) ^ (-126 : ℤ) :=
      mul_le_mul_of_nonneg_right (by norm_num) (by positivity)
    exact not_lt.mpr (this.trans h1)

theorem exp2_int (j : ℤ) : Ideal.exp2 (((j : ℝ)) : EReal) = (((2 : ℝ) ^ j : ℝ) : EReal) := by
  show ((Real.rpow 2 (j : ℝ) : ℝ) : EReal) = _
  congr 1
  exact Real.rpow_intCast 2 j

/-- The kernel's powers of two are the reference's: at a magnitude in range both are a positive real and its inverse. -/
theorem scale_eq {a : EReal} (h : InRange a) :
    ∃ s : ℝ, 0 < s ∧ kscale a = (s : EReal) ∧ kinv a = ((s⁻¹ : ℝ) : EReal) ∧
      Ideal.exp2 (rexp a) = (s : EReal) ∧ Ideal.exp2 (0 - rexp a) = ((s⁻¹ : ℝ) : EReal) := by
  rcases h with rfl | ⟨r, rfl, h1, h2⟩
  · refine ⟨1, one_pos, ?_, ?_, ?_, ?_⟩
    · unfold kscale
      rw [biased_zero, ofBits_pow _ 127 (by decide) (by norm_num) (by norm_num)]
      norm_num
    · unfold kinv
      rw [biased_zero, ofBits_pow _ 127 (by decide) (by norm_num) (by norm_num)]
      norm_num
    · have : rexp 0 = (((0 : ℤ) : ℝ) : EReal) := by
        unfold rexp
        show Scalar.select (BitVec.ofBool (decide ((0 : EReal) = 0))) _ _ = _
        rw [decide_eq_true rfl]
        simp [Scalar.select]
      rw [this, exp2_int]; simp
    · have : 0 - rexp 0 = (((0 : ℤ) : ℝ) : EReal) := by
        unfold rexp
        show 0 - Scalar.select (BitVec.ofBool (decide ((0 : EReal) = 0))) _ _ = _
        rw [decide_eq_true rfl]
        simp [Scalar.select]
      rw [this, exp2_int]; simp
  · obtain ⟨c, c1, c2, c3, c4⟩ := biased_pos r h1 h2
    have hr : 0 < r / 448 := by
      have : (0 : ℝ) < 448 * (2 : ℝ) ^ (-126 : ℤ) := by positivity
      linarith
    have hr0 : 0 < r := by linarith
    obtain ⟨t1, t2⟩ := kexp_toNat c c1 c2
    have he : rexp (r : EReal) = ((((c : ℤ) - 135 : ℤ) : ℝ) : EReal) := by
      unfold rexp
      show Scalar.select (BitVec.ofBool (decide ((r : EReal) = 0))) _ _ = _
      rw [decide_eq_false (by exact_mod_cast hr0.ne')]
      show Ideal.liftRound Int.floor (Ideal.div (Ideal.log ((r : EReal) * ((1 / 448 : ℝ) : EReal))) ((Real.log 2 : ℝ) : EReal)) + 1 = _
      rw [← EReal.coe_mul]
      have l1 : Ideal.log ((r * (1 / 448) : ℝ) : EReal) = ((Real.log (r * (1 / 448)) : ℝ) : EReal) := by
        show (if r * (1 / 448) ≤ 0 then (⊥ : EReal) else _) = _
        rw [if_neg (by linarith)]
      rw [l1, Ideal.div_coe (Real.log_pos (by norm_num)).ne', ← EReal.coe_mul]
      show (((⌊Real.log (r * (1 / 448)) * (1 / Real.log 2)⌋ : ℤ) : ℝ) : EReal) + 1 = _
      have l2 : ⌊Real.log (r * (1 / 448)) * (1 / Real.log 2)⌋ = (c : ℤ) - 136 := by
        rw [← c3, flog, mul_one_div r]
      rw [l2]
      have : (1 : EReal) = ((1 : ℝ) : EReal) := rfl
      rw [this, ← EReal.coe_add]
      congr 1
      push_cast; ring
    refine ⟨(2 : ℝ) ^ ((c : ℤ) - 135), by positivity, ?_, ?_, ?_, ?_⟩
    · unfold kscale
      rw [c4, ofBits_pow _ (c - 8) t1 (by omega) (by omega)]
      congr 2
      omega
    · unfold kinv
      rw [c4, ofBits_pow _ (262 - c) t2 (by omega) (by omega), ← zpow_neg]
      congr 2
      omega
    · rw [he, exp2_int]
    · have : (0 : EReal) - ((((c : ℤ) - 135 : ℤ) : ℝ) : EReal) = (((-((c : ℤ) - 135) : ℤ) : ℝ) : EReal) := by
        rw [zero_sub, ← EReal.coe_neg]
        push_cast; rfl
      rw [he, this, exp2_int, zpow_neg]

end Cert.Quant

end
-- ==== Proof.Spec.lean ====
/-
  ONE ROW OF THE ATTENTION, as the kernel computes it and as the reference writes it, over the extended reals: a row of
  128 query numbers against 1536 keys of which the first `w` count. The kernel takes its softmax in base two, scaled by
  256, with the query's scale applied after the maximum is subtracted; the reference applies the scale to the scores and
  takes the exponential. The two rows are equal whenever the query's scale is one of the quantiser's (a positive power
  of two).
-/
module

public import proofs.«01_k».proof.Proof.Quant

@[expose] public section

noncomputable section

namespace Cert.Spec

open Idealize.ShloMosaic Cert.Quant

/-- The largest magnitude of a row. -/
def amax (q : Fin 128 → EReal) : EReal := Finset.univ.sup fun d => max (q d) (-(q d))

/-- Clipping to the fp8 range `[-448, 448]` … -/
def clip (x : EReal) : EReal := min (Ideal.ofBits .f32 0x43E00000#32) (max (Ideal.ofBits .f32 0xC3E00000#32) x)

/-- … and a probability to `[0, 448]`. -/
def clip0 (x : EReal) : EReal := min (Ideal.ofBits .f32 0x43E00000#32) (max 0 x)

/-! ## The kernel's row -/

section Kernel

variable (q : Fin 128 → EReal) (kk : ℕ → Fin 128 → EReal) (s2 vt : ℕ → EReal) (vs : EReal) (w : ℤ)

/-- The row's codes. -/
def kcode (d : Fin 128) : EReal := clip (q d * kinv (amax q))

/-- The row's raw score of key `P`: `⊥` past the last key that counts. -/
def kz (P : ℕ) : EReal := if (P : ℤ) < w then (∑ d, kk P d * kcode q d) * s2 P else ⊥

/-- The row's largest score. -/
def kM : EReal := (Finset.range 1536).sup (kz q kk s2 w)

/-- The scale that multiplies the row's shifted scores, in base two. -/
def ksc : EReal := kscale (amax q) * (((Real.log 2)⁻¹ : ℝ) : EReal)

/-- The row's unnormalised probability of key `P`, times 256. -/
def kp (P : ℕ) : EReal := Ideal.exp2 ((kz q kk s2 w P - kM q kk s2 w) * ksc q + Ideal.ofBits .f32 0x41000000#32)

/-- The row's sum of probabilities … -/
def kl : EReal := ∑ P ∈ Finset.range 1536, kp q kk s2 w P

/-- … its weighted sum of one column of the values … -/
def kacc : EReal := ∑ P ∈ Finset.range 1536, vt P * clip0 (kp q kk s2 w P)

/-- … and its result in that column. -/
def kout : EReal := kacc q kk s2 vt w * Ideal.div vs (kl q kk s2 w)

end Kernel

/-! ## The reference's row -/

section Reference

variable (q : Fin 128 → EReal) (kk : ℕ → Fin 128 → EReal) (s2 vt : ℕ → EReal) (vs : EReal) (w : ℤ)

def rscale : EReal := Ideal.exp2 (rexp (amax q))
def rcode (d : Fin 128) : EReal := clip (q d * Ideal.exp2 (0 - rexp (amax q)))
def rs (P : ℕ) : EReal := if (P : ℤ) < w then ((∑ d, rcode q d * kk P d) * rscale q) * s2 P else ⊥
def rM : EReal := (Finset.range 1536).sup (rs q kk s2 w)
def re (P : ℕ) : EReal := Ideal.exp (rs q kk s2 w P - rM q kk s2 w)
def rl : EReal := ∑ P ∈ Finset.range 1536, re q kk s2 w P
def racc : EReal := ∑ P ∈ Finset.range 1536, clip0 (re q kk s2 w P * Ideal.ofBits .f32 0x43800000#32) * vt P
def rout : EReal := racc q kk s2 vt w * Ideal.div (Ideal.ofBits .f32 0x3B800000#32 * vs) (rl q kk s2 w)

end Reference

/-! ## The constants -/

theorem ofBits_8 : Ideal.ofBits .f32 0x41000000#32 = ((8 : ℝ) : EReal) := by
  rw [ofBits_fields _ 130 0 (by decide) (by norm_num) (by norm_num), if_neg (by norm_num)]
  congr 1
  norm_num

theorem ofBits_256 : Ideal.ofBits .f32 0x43800000#32 = ((256 : ℝ) : EReal) := by
  rw [ofBits_fields _ 135 0 (by decide) (by norm_num) (by norm_num), if_neg (by norm_num)]
  congr 1
  norm_num

theorem ofBits_inv256 : Ideal.ofBits .f32 0x3B800000#32 = ((1 / 256 : ℝ) : EReal) := by
  rw [ofBits_fields _ 119 0 (by decide) (by norm_num) (by norm_num), if_neg (by norm_num)]
  congr 1
  norm_num

theorem ofBits_448 : Ideal.ofBits .f32 0x43E00000#32 = ((448 : ℝ) : EReal) := by
  rw [ofBits_fields _ 135 6291456 (by decide) (by norm_num) (by norm_num), if_neg (by norm_num)]
  congr 1
  norm_num

theorem clip0_zero : clip0 0 = 0 := by
  unfold clip0
  rw [ofBits_448, max_self, min_eq_right]
  exact_mod_cast (by norm_num : (0 : ℝ) ≤ 448)

/-! ## A positive real factor -/

theorem mul_sub_pos {σ : ℝ} (h : 0 < σ) (z M : EReal) : (σ : EReal) * z - σ * M = σ * (z - M) := by
  have hσ : (0 : EReal) < (σ : EReal) := by exact_mod_cast h
  induction z with
  | bot => simp [EReal.coe_mul_bot_of_pos h]
  | top =>
    induction M with
    | bot => simp [EReal.coe_mul_bot_of_pos h, EReal.coe_mul_top_of_pos h]
    | top => simp [EReal.coe_mul_bot_of_pos h, EReal.coe_mul_top_of_pos h]
    | coe b => rw [EReal.top_sub_coe, EReal.coe_mul_top_of_pos h, ← EReal.coe_mul, EReal.top_sub_coe]
  | coe a =>
    induction M with
    | bot => rw [EReal.coe_mul_bot_of_pos h, EReal.coe_sub_bot, ← EReal.coe_mul, EReal.coe_sub_bot, EReal.coe_mul_top_of_pos h]
    | top => rw [EReal.coe_mul_top_of_pos h, sub_eq_add_neg, sub_eq_add_neg, EReal.neg_top, EReal.add_bot, EReal.add_bot, EReal.coe_mul_bot_of_pos h]
    | coe b => norm_cast; ring

/-- Base two, scaled by 256, is the exponential times 256. -/
theorem exp2_scaled {σ : ℝ} (h : 0 < σ) (y : EReal) :
    Ideal.exp2 (y * ((σ : EReal) * (((Real.log 2)⁻¹ : ℝ) : EReal)) + ((8 : ℝ) : EReal)) = ((256 : ℝ) : EReal) * Ideal.exp ((σ : EReal) * y) := by
  have h2 : (0 : ℝ) < Real.log 2 := Real.log_pos (by norm_num)
  have h3 : 0 < σ * (Real.log 2)⁻¹ := by positivity
  rw [← EReal.coe_mul]
  induction y with
  | bot =>
    rw [EReal.bot_mul_coe_of_pos h3, EReal.bot_add, EReal.coe_mul_bot_of_pos h]
    show (0 : EReal) = _ * 0
    rw [mul_zero]
  | top =>
    rw [EReal.top_mul_coe_of_pos h3, EReal.top_add_coe, EReal.coe_mul_top_of_pos h]
    show (⊤ : EReal) = _ * ⊤
    rw [EReal.coe_mul_top_of_pos (by norm_num)]
  | coe r =>
    rw [← EReal.coe_mul, ← EReal.coe_add, ← EReal.coe_mul]
    show ((Real.rpow 2 _ : ℝ) : EReal) = _ * ((Real.exp _ : ℝ) : EReal)
    rw [← EReal.coe_mul]
    congr 1
    show (2 : ℝ) ^ (r * (σ * (Real.log 2)⁻¹) + 8) = _
    rw [Real.rpow_add (by norm_num), Real.rpow_def_of_pos (by norm_num)]
    have e : Real.log 2 * (r * (σ * (Real.log 2)⁻¹)) = σ * r := by field_simp
    rw [e]
    have : (2 : ℝ) ^ (8 : ℝ) = 256 := by
      rw [show (8 : ℝ) = ((8 : ℕ) : ℝ) by norm_num, Real.rpow_natCast]; norm_num
    rw [this, mul_comm]

theorem exp_nonneg (y : EReal) : 0 ≤ Ideal.exp y := by
  induction y with
  | bot => exact le_refl _
  | top => exact le_top
  | coe r => show (0 : EReal) ≤ ((Real.exp r : ℝ) : EReal); exact_mod_cast (Real.exp_pos r).le

theorem mul_sum_nonneg {c : EReal} {s : Finset ℕ} {f : ℕ → EReal} (hf : ∀ i, 0 ≤ f i) :
    ∑ i ∈ s, c * f i = c * ∑ i ∈ s, f i := by
  induction s using Finset.cons_induction with
  | empty => simp
  | cons a s ha ih =>
    rw [Finset.sum_cons, Finset.sum_cons, ih, EReal.left_distrib_of_nonneg (hf a) (Finset.sum_nonneg fun i _ => hf i)]

theorem mul_sup_pos {σ : ℝ} (h : 0 < σ) (s : Finset ℕ) (f : ℕ → EReal) :
    s.sup (fun i => (σ : EReal) * f i) = (σ : EReal) * s.sup f := by
  have hσ : (0 : EReal) ≤ (σ : EReal) := by exact_mod_cast h.le
  induction s using Finset.cons_induction with
  | empty => simp [EReal.coe_mul_bot_of_pos h]
  | cons a s ha ih =>
    rw [Finset.sup_cons, Finset.sup_cons, ih]
    have hm : Monotone fun x : EReal => (σ : EReal) * x := fun x y hxy => mul_le_mul_of_nonneg_left hxy hσ
    exact (hm.map_sup _ _).symm

theorem div_scaled (vs l : EReal) :
    Ideal.div vs (((256 : ℝ) : EReal) * l) = Ideal.div (((1 / 256 : ℝ) : EReal) * vs) l := by
  have h256 : ((256 : ℝ) : EReal) ≠ 0 := by exact_mod_cast (by norm_num : (256 : ℝ) ≠ 0)
  have hp : (0 : EReal) < ((1 / 256 : ℝ) : EReal) := by exact_mod_cast (by norm_num : (0 : ℝ) < 1 / 256)
  unfold Ideal.div
  by_cases hl : l = 0
  · rw [hl, mul_zero, if_pos rfl, if_pos rfl]
    have : 0 < ((1 / 256 : ℝ) : EReal) * vs ↔ 0 < vs := by
      induction vs with
      | bot => rw [EReal.coe_mul_bot_of_pos (by norm_num)]
      | top => rw [EReal.coe_mul_top_of_pos (by norm_num)]
      | coe r =>
        rw [← EReal.coe_mul]
        norm_cast
        constructor <;> intro h <;> linarith
    by_cases hv : 0 < vs
    · rw [if_pos hv, if_pos (this.2 hv)]
    · rw [if_neg hv, if_neg (fun h => hv (this.1 h))]
  · rw [if_neg (mul_ne_zero h256 hl), if_neg hl, EReal.mul_inv, ← EReal.coe_inv, one_div, ← mul_assoc, mul_comm vs]

/-! ## The two rows are equal -/

section Eq

variable (q : Fin 128 → EReal) (kk : ℕ → Fin 128 → EReal) (s2 vt : ℕ → EReal) (vs : EReal) (w : ℤ)

theorem kscale_eq_rscale (h : InRange (amax q)) : kscale (amax q) = rscale q := by
  obtain ⟨s, hs, h1, h2, h3, h4⟩ := scale_eq h
  unfold rscale
  rw [h1, h3]

theorem kcode_eq_rcode (h : InRange (amax q)) (d : Fin 128) : kcode q d = rcode q d := by
  obtain ⟨s, hs, h1, h2, h3, h4⟩ := scale_eq h
  unfold kcode rcode
  rw [h2, h4]

theorem kout_eq_rout (h : InRange (amax q)) : kout q kk s2 vt vs w = rout q kk s2 vt vs w := by
  obtain ⟨σ, hσ, h1, h2, h3, h4⟩ := scale_eq h
  have hs : ∀ P, rs q kk s2 w P = (σ : EReal) * kz q kk s2 w P := by
    intro P
    unfold rs kz rscale
    split_ifs
    · rw [h3, ← mul_assoc, mul_comm (σ : EReal)]
      congr 2
      exact Finset.sum_congr rfl fun d _ => by rw [kcode_eq_rcode q h, mul_comm]
    · rw [EReal.coe_mul_bot_of_pos hσ]
  have hM : rM q kk s2 w = (σ : EReal) * kM q kk s2 w := by
    unfold rM kM
    rw [← mul_sup_pos hσ]
    exact Finset.sup_congr rfl fun P _ => hs P
  have hp : ∀ P, kp q kk s2 w P = ((256 : ℝ) : EReal) * re q kk s2 w P := by
    intro P
    unfold kp re ksc
    rw [h1, ofBits_8, exp2_scaled hσ, hs, hM, mul_sub_pos hσ]
  have hl : kl q kk s2 w = ((256 : ℝ) : EReal) * rl q kk s2 w := by
    unfold kl rl
    rw [← mul_sum_nonneg (f := re q kk s2 w) fun P => exp_nonneg _]
    exact Finset.sum_congr rfl fun P _ => hp P
  have ha : kacc q kk s2 vt w = racc q kk s2 vt w := by
    unfold kacc racc
    refine Finset.sum_congr rfl fun P _ => ?_
    rw [hp, ofBits_256, mul_comm, mul_comm (re q kk s2 w P)]
  unfold kout rout
  rw [ha, hl, div_scaled, ofBits_inv256]

/-! ## Keys that do not count contribute nothing -/

theorem kz_ge {P : ℕ} (h : w ≤ P) : kz q kk s2 w P = ⊥ := by
  unfold kz; rw [if_neg (by omega)]

theorem kp_ge {P : ℕ} (hP : w ≤ P) : kp q kk s2 w P = 0 := by
  obtain ⟨σ, hσ, h1⟩ := kscale_pos (amax q)
  unfold kp ksc
  rw [h1, ofBits_8, exp2_scaled hσ, kz_ge _ _ _ _ hP, EReal.bot_sub, EReal.coe_mul_bot_of_pos hσ]
  show _ * (0 : EReal) = 0
  rw [mul_zero]

end Eq

end Cert.Spec

end
-- ==== Proof.KI.Pay.lean ====
/-
  WHAT THE KERNEL'S VECTOR EXPRESSIONS HOLD AT AN INDEX, over the extended reals, in the words of one row's attention
  (`Cert.Spec`): a query block is 256 rows, lane `r` of each `… × 256` value is row `r`.
-/
module

public import proofs.«01_k».proof.Proof.Gen.KernelIdeal.Skeleton
public import proofs.«01_k».proof.Proof.Spec
public import Idealize.ShloMosaic.Lib.Pointwise
public import Idealize.ShloMosaic.PureOps.Ideal.Laws

@[expose] public section

set_option maxRecDepth 16384

noncomputable section

namespace Cert.KernelIdeal.Gen

open Idealize.ShloMosaic Idealize.ShloMosaic.TcCoe Idealize.ShloMosaic.Tactic
open Cert.Quant Cert.Spec

theorem ofBits_negInf : Ideal.ofBits .f32 0xFF800000#32 = (⊥ : EReal) := by
  show Ideal.ieee 8 23 0xFF800000#32 = _
  unfold Ideal.ieee
  simp

/-- A maximum folded from −∞ is the supremum. -/
theorem fold_max_eq_sup {ι : Type} (s : Finset ι) (f : ι → EReal) :
    Finset.fold max (Ideal.ofBits .f32 0xFF800000#32) f s = s.sup f := by
  rw [ofBits_negInf]; rfl

/-! ## The query block's codes and scales -/

/-- Row `r` of a query block. -/
def qrow (x0 : Vec Ideal S1x256x128 .bf16) (r : Fin 256) (d : Fin 128) : EReal := x0 (ix3 0 r d)

/-- The query block's codes. -/
abbrev CODES (x0 : Vec Ideal S1x256x128 .bf16) : FVec Ideal S256x128 .fp8e4m3 :=
  k0_pay13 (F := Ideal) (k0_pay9 x0) (k0_pay12 (k0_pay10 x0) (k0_pay11 x0) 16#32) 10#32

/-- The query block's largest magnitudes, a row's in its lane … -/
abbrev AMAX (x0 : Vec Ideal S1x256x128 .bf16) : FVec Ideal S1x256 .f32 := k0_pay15 (F := Ideal) (k0_pay9 x0)

/-- … and its search for the exponents, after six comparisons. -/
abbrev B20 (x0 : Vec Ideal S1x256x128 .bf16) : IVec S1x256 32 :=
  k0_pay20 (F := Ideal) (AMAX x0) (k0_pay16 (k0_pay9 x0)) (k0_pay17 (k0_pay9 x0)) (k0_pay18 (k0_pay9 x0)) k0_pay19
abbrev B21 (x0 : Vec Ideal S1x256x128 .bf16) : IVec S1x256 32 :=
  k0_pay21 (F := Ideal) (AMAX x0) (k0_pay16 (k0_pay9 x0)) (k0_pay17 (k0_pay9 x0)) (k0_pay18 (k0_pay9 x0)) k0_pay19
abbrev B22 (x0 : Vec Ideal S1x256x128 .bf16) : IVec S1x256 32 :=
  k0_pay22 (F := Ideal) (AMAX x0) (k0_pay16 (k0_pay9 x0)) (k0_pay17 (k0_pay9 x0)) (k0_pay18 (k0_pay9 x0)) k0_pay19

theorem pay10_apply (x0 : Vec Ideal S1x256x128 .bf16) (r : Fin 256) (d : Fin 128) :
    k0_pay10 (F := Ideal) x0 (ix2 r d) = amax (qrow x0 r) := by
  pointwise [k0_pay10, k0_pay9]
  rw [fold_max_eq_sup]
  rfl

theorem amax_apply (x0 : Vec Ideal S1x256x128 .bf16) (r : Fin 256) : AMAX x0 (ix2 0 r) = amax (qrow x0 r) := by
  pointwise [AMAX, k0_pay15, k0_pay9]
  rw [fold_max_eq_sup]
  rfl

theorem pay12_apply (a : FVec Ideal S256x128 .f32) (t : IVec S256x128 32) (i : S256x128.Idx) :
    k0_pay12 (F := Ideal) a t 16#32 i =
      step (a i) (step (a i) (step (a i) (step (a i) (step (a i) (t i) 16#32) 8#32) 4#32) 2#32) 1#32 := rfl

/-- One comparison of the search, at every element of a block. -/
def vstep {s : Shape} (a : FVec Ideal s .f32) (t : IVec s 32) (b : BitVec 32) : IVec s 32 :=
  select (cmpf .olt a (bitcastToFloat .f32 (subi (shli (addi t (broadcast s b)) (broadcast s 23#32)) (broadcast s 2097152#32)))) t
    (addi t (broadcast s b))

theorem vstep_apply {s : Shape} (a : FVec Ideal s .f32) (t : IVec s 32) (b : BitVec 32) (i : s.Idx) :
    vstep a t b i = step (a i) (t i) b := rfl

theorem bc_apply {α : Type} (s : Shape) (b : α) (i : s.Idx) : broadcast s b i = b := rfl

theorem pay11_eq (x0 : Vec Ideal S1x256x128 .bf16) :
    k0_pay11 (F := Ideal) x0 =
      vstep (k0_pay10 (F := Ideal) x0) (vstep (k0_pay10 (F := Ideal) x0) (vstep (k0_pay10 (F := Ideal) x0) (broadcast S256x128 0#32) 128#32) 64#32) 32#32 := rfl

theorem pay11_apply (x0 : Vec Ideal S1x256x128 .bf16) (i : S256x128.Idx) :
    k0_pay11 (F := Ideal) x0 i =
      step (k0_pay10 (F := Ideal) x0 i) (step (k0_pay10 (F := Ideal) x0 i) (step (k0_pay10 (F := Ideal) x0 i) 0#32 128#32) 64#32) 32#32 := by
  rw [pay11_eq, vstep_apply, vstep_apply, vstep_apply, bc_apply]

theorem search_apply (x0 : Vec Ideal S1x256x128 .bf16) (i : S256x128.Idx) :
    k0_pay12 (F := Ideal) (k0_pay10 x0) (k0_pay11 x0) 16#32 i = biased (k0_pay10 (F := Ideal) x0 i) := by
  rw [pay12_apply, pay11_apply]
  generalize (k0_pay10 (F := Ideal) x0 i : EReal) = a
  unfold biased biased7
  rfl

theorem clip_apply (x : FVec Ideal S256x128 .f32) (t : IVec S256x128 32) (i : S256x128.Idx) :
    k0_pay13 (F := Ideal) x t 10#32 i =
      clip (x i * Ideal.ofBits .f32 (IntOp.shli .vector (IntOp.addi (IntOp.subi 0#32 (kexp (t i))) 127#32) 23#32)) := rfl

theorem pay9_apply (x0 : Vec Ideal S1x256x128 .bf16) (r : Fin 256) (d : Fin 128) :
    k0_pay9 (F := Ideal) x0 (ix2 r d) = qrow x0 r d := by
  pointwise [k0_pay9]
  rfl

theorem codes_apply (x0 : Vec Ideal S1x256x128 .bf16) (r : Fin 256) (d : Fin 128) :
    CODES x0 (ix2 r d) = kcode (qrow x0 r) d := by
  unfold CODES kcode kinv
  rw [clip_apply, search_apply, pay10_apply, pay9_apply]

theorem pay20_eq (a : FVec Ideal S1x256 .f32) (t : IVec S1x256 32) :
    k0_pay20 (F := Ideal) a t (addi t (broadcast S1x256 64#32)) (shli (addi t (broadcast S1x256 64#32)) (broadcast S1x256 23#32)) k0_pay19 =
      vstep a (vstep a (vstep a (vstep a (vstep a t 64#32) 32#32) 16#32) 8#32) 4#32 := rfl

theorem pay24_apply (a : FVec Ideal S1x256 .f32) (t : IVec S1x256 32) (i : S1x256.Idx) :
    k0_pay24 (F := Ideal) a t (addi t (broadcast S1x256 2#32)) (shli (addi t (broadcast S1x256 2#32)) (broadcast S1x256 23#32)) k0_pay23 i =
      Ideal.ofBits .f32 (IntOp.shli .vector (IntOp.addi (kexp (step (a i) (step (a i) (t i) 2#32) 1#32)) 127#32) 23#32) := rfl

theorem pay16_eq (q9 : FVec Ideal S256x128 .f32) :
    k0_pay16 (F := Ideal) q9 = vstep (k0_pay15 (F := Ideal) q9) (broadcast S1x256 0#32) 128#32 := rfl

theorem B20_eq (x0 : Vec Ideal S1x256x128 .bf16) :
    B20 x0 = vstep (AMAX x0) (vstep (AMAX x0) (vstep (AMAX x0) (vstep (AMAX x0) (vstep (AMAX x0) (vstep (AMAX x0)
      (broadcast S1x256 0#32) 128#32) 64#32) 32#32) 16#32) 8#32) 4#32 := by
  have e := pay20_eq (AMAX x0) (k0_pay16 (F := Ideal) (k0_pay9 x0))
  rw [pay16_eq] at e
  exact e

theorem B20_apply (x0 : Vec Ideal S1x256x128 .bf16) (i : S1x256.Idx) :
    B20 x0 i = step (AMAX x0 i) (step (AMAX x0 i) (step (AMAX x0 i) (step (AMAX x0 i)
      (step (AMAX x0 i) (step (AMAX x0 i) 0#32 128#32) 64#32) 32#32) 16#32) 8#32) 4#32 := by
  rw [B20_eq]
  simp only [vstep_apply, bc_apply]

theorem scale_lane (x0 : Vec Ideal S1x256x128 .bf16) (i : S1x256.Idx) :
    k0_pay24 (F := Ideal) (AMAX x0) (B20 x0) (B21 x0) (B22 x0) k0_pay23 i = kscale (AMAX x0 i) := by
  have e := pay24_apply (AMAX x0) (B20 x0) i
  rw [B20_apply x0 i] at e
  exact e.trans (by unfold kscale biased biased7; rfl)

theorem scale_apply (x0 : Vec Ideal S1x256x128 .bf16) (r : Fin 256) :
    k0_pay24 (F := Ideal) (AMAX x0) (B20 x0) (B21 x0) (B22 x0) k0_pay23 (ix2 0 r) = kscale (amax (qrow x0 r)) := by
  rw [scale_lane, amax_apply]

theorem pay14_apply (x0 : Vec Ideal S1x256x128 .bf16) (r : Fin 256) (d : Fin 128) :
    k0_pay14 (F := Ideal) (k0_pay9 x0) (k0_pay12 (k0_pay10 x0) (k0_pay11 x0) 16#32) 10#32 (ix3 0 r d) = kcode (qrow x0 r) d := by
  rw [← codes_apply]
  pointwise [k0_pay14]

theorem pay25_apply (x0 : Vec Ideal S1x256x128 .bf16) (r : Fin 256) :
    k0_pay25 (F := Ideal) (AMAX x0) (B20 x0) (B21 x0) (B22 x0) k0_pay23 (ix3 0 0 r) = kscale (amax (qrow x0 r)) := by
  rw [← scale_apply]
  generalize AMAX x0 = a, B20 x0 = b, B21 x0 = c, B22 x0 = d
  pointwise [k0_pay25]

theorem named_log2e : Named.named (F := Ideal) κ "log2e" (φ := .f32) 0x3FB8AA3B#32 = (((Real.log 2)⁻¹ : ℝ) : EReal) := rfl

theorem pay26_apply (x0 : Vec Ideal S1x256x128 .bf16) (r : Fin 256) :
    k0_pay26 (F := Ideal) (AMAX x0) (B20 x0) (B21 x0) (B22 x0) k0_pay23 (ix2 0 r) = ksc (qrow x0 r) := by
  unfold ksc
  rw [← scale_apply, ← named_log2e]
  generalize AMAX x0 = a, B20 x0 = b, B21 x0 = c, B22 x0 = d
  pointwise [k0_pay26]

/-! ## A tile of scores, of probabilities -/

theorem iv_toInt (k p : ℕ) (hk : k < 6) (hp : p < 256) :
    (IntOp.addi (Scalar.muli (Scf.iv 0#32 1#32 k) 256#32) (BitVec.ofNat 32 p)).toInt = ((256 * k + p : ℕ) : ℤ) := by
  have e : (IntOp.addi (Scalar.muli (Scf.iv 0#32 1#32 k) 256#32) (BitVec.ofNat 32 p)).toNat = 256 * k + p := by
    show ((0#32 + BitVec.ofNat 32 k * 1#32) * 256#32 + BitVec.ofNat 32 p).toNat = _
    simp only [BitVec.toNat_add, BitVec.toNat_mul, BitVec.toNat_ofNat]
    omega
  rw [BitVec.toInt_eq_toNat_cond, e, if_pos (by omega)]

theorem slt_iv (w : BitVec 32) (k p : ℕ) (hk : k < 6) (hp : p < 256) {α : Type} (a b : α) :
    Scalar.select (IntOp.cmpi .slt (IntOp.addi (Scalar.muli (Scf.iv 0#32 1#32 k) 256#32) (BitVec.ofNat 32 p)) w) a b =
      if ((256 * k + p : ℕ) : ℤ) < w.toInt then a else b := by
  show Scalar.select (BitVec.ofBool (BitVec.slt _ _)) a b = _
  rw [BitVec.slt, iv_toInt k p hk hp]
  by_cases h : ((256 * k + p : ℕ) : ℤ) < w.toInt
  · rw [if_pos h, decide_eq_true h]; rfl
  · rw [if_neg h, decide_eq_false h]; rfl

set_option maxHeartbeats 2000000 in
theorem pay28_apply (w : BitVec 32) (codes : FVec Ideal S256x128 .fp8e4m3) (k : Fin (k0_t1_loop w).trips) (hk : k.val < 6)
    (kk : Vec Ideal S1x256x128 .fp8e4m3) (ks : Vec Ideal S1x256x128 .f32) (p r : Fin 256) :
    k0_pay28 (F := Ideal) w codes k kk ks (ix2 p r) =
      if ((256 * k.val + p.val : ℕ) : ℤ) < w.toInt then
        (∑ d, kk (ix3 0 p d) * codes (ix2 r d)) * ks (ix3 0 p ⟨r.val % 128, Nat.mod_lt _ (by norm_num)⟩) else ⊥ := by
  pointwise [k0_pay28]
  rw [slt_iv w k.val p.val hk p.isLt, ofBits_negInf]
  have hr := r.isLt
  have e : (if h : r.val < 128 then ks (ix3 0 p ⟨r.val, h⟩) else ks (ix3 0 p ⟨r.val - 128, by omega⟩)) =
      ks (ix3 0 p ⟨r.val % 128, Nat.mod_lt _ (by norm_num)⟩) := by
    split_ifs with h
    · rw [show (⟨r.val, h⟩ : Fin 128) = ⟨r.val % 128, Nat.mod_lt _ (by norm_num)⟩ from Fin.ext (by show r.val = r.val % 128; omega)]
    · rw [show (⟨r.val - 128, by omega⟩ : Fin 128) = ⟨r.val % 128, Nat.mod_lt _ (by norm_num)⟩ from Fin.ext (by show r.val - 128 = r.val % 128; omega)]
  exact congrArg (fun v : EReal => if ((256 * k.val + p.val : ℕ) : ℤ) < w.toInt then (∑ d, kk (ix3 0 p d) * codes (ix2 r d)) * v else ⊥) e

theorem pay29_apply (w : BitVec 32) (codes : FVec Ideal S256x128 .fp8e4m3) (k : Fin (k0_t1_loop w).trips)
    (kk : Vec Ideal S1x256x128 .fp8e4m3) (ks : Vec Ideal S1x256x128 .f32) (p r : Fin 256) :
    k0_pay29 (F := Ideal) w codes k kk ks (ix2 p r) = k0_pay28 (F := Ideal) w codes k kk ks (ix2 p r) := by
  pointwise [k0_pay29]

/-- The row of a tile that sublane `s` of register `x` holds. -/
def tileRow (x : Fin 32) (s : Fin 8) : Fin 256 := ⟨x.val * 8 + s.val, by omega⟩

theorem pay30_apply (w : BitVec 32) (codes : FVec Ideal S256x128 .fp8e4m3) (k : Fin (k0_t1_loop w).trips)
    (acc : FVec Ideal S8x256 .f32) (kk : Vec Ideal S1x256x128 .fp8e4m3) (ks : Vec Ideal S1x256x128 .f32) (s : Fin 8) (r : Fin 256) :
    k0_pay30 (F := Ideal) w codes k acc kk ks (ix2 s r) =
      max (acc (ix2 s r)) (Finset.univ.sup fun x : Fin 32 => k0_pay28 (F := Ideal) w codes k kk ks (ix2 (tileRow x s) r)) := by
  pointwise [k0_pay30]
  rw [fold_max_eq_sup]
  rfl

theorem pay34_apply (x : FVec Ideal S8x256 .f32) (r : Fin 256) :
    k0_pay34 (F := Ideal) x (ix2 0 r) = Finset.univ.sup fun s : Fin 8 => x (ix2 s r) := by
  pointwise [k0_pay34]
  rw [fold_max_eq_sup]

theorem pay2_apply (a b : FVec Ideal S1x256 .f32) (z : Vec Ideal S256x256 .f32) (p r : Fin 256) :
    k0_pay2 (F := Ideal) a b z (ix2 p r) =
      Ideal.exp2 ((z (ix2 p r) - b (ix2 0 r)) * a (ix2 0 r) + Ideal.ofBits .f32 0x41000000#32) := by
  pointwise [k0_pay2]
  rfl

theorem pay3_apply (a b : FVec Ideal S1x256 .f32) (acc : FVec Ideal S8x256 .f32) (z : Vec Ideal S256x256 .f32) (s : Fin 8) (r : Fin 256) :
    k0_pay3 (F := Ideal) a b acc z (ix2 s r) = acc (ix2 s r) + ∑ x : Fin 32, k0_pay2 (F := Ideal) a b z (ix2 (tileRow x s) r) := by
  pointwise [k0_pay3]
  rfl

theorem pay4_apply (a b : FVec Ideal S1x256 .f32) (acc : FVec Ideal S128x256 .f32) (z : Vec Ideal S256x256 .f32)
    (vt : Vec Ideal S1x128x256 .fp8e4m3) (d : Fin 128) (r : Fin 256) :
    k0_pay4 (F := Ideal) a b acc z vt (ix2 d r) =
      acc (ix2 d r) + ∑ p : Fin 256, vt (ix3 0 d p) * clip0 (k0_pay2 (F := Ideal) a b z (ix2 p r)) := by
  pointwise [k0_pay4]
  rfl

theorem pay8_apply (l8 : FVec Ideal S8x256 .f32) (acc : FVec Ideal S128x256 .f32) (v : Elt Ideal .f32) (r : Fin 256) (d : Fin 128) :
    k0_pay8 (F := Ideal) l8 acc v (ix3 0 r d) = acc (ix2 d r) * Ideal.div v (∑ s : Fin 8, l8 (ix2 s r)) := by
  pointwise [k0_pay8]

theorem pay27_apply (i : S8x256.Idx) : k0_pay27 (F := Ideal) i = (⊥ : EReal) := ofBits_negInf

theorem pay35_apply (i : S8x256.Idx) : k0_pay35 (F := Ideal) i = (0 : EReal) := Ideal.ofBits_zero_f32

theorem pay1_apply (i : S128x256.Idx) : k0_pay1 (F := Ideal) i = (0 : EReal) := Ideal.ofBits_zero_f32

end Cert.KernelIdeal.Gen

end
-- ==== Proof.KI.Bounds.lean ====
/-
  THE PLACES THE TWO PASSES OVER THE KEYS VISIT. Trip `k` of either loop is at key `256 k`, and if at most 1536 keys
  count there are at most six trips: every place is inside its array, which is all the body asks of the word it reads.
-/
module

public import proofs.«01_k».proof.KernelIdeal
public import proofs.«01_k».proof.Proof.Words

@[expose] public section

set_option maxRecDepth 8192

namespace Cert.KernelIdeal.Gen

open Idealize.ShloMosaic Idealize.ShloMosaic.TcCoe Cert.Words

/-! ## The loops' bounds -/

theorem t1_loop_eq (w : BitVec 32) : k0_t1_loop w = ⟨0#32, nt w, 1#32⟩ :=
  congrArg (fun u => (⟨0#32, u, 1#32⟩ : Scf.Loop 32)) (ub_eq (nt w))

theorem t3_loop_eq (w : BitVec 32) : k0_t3_loop w = ⟨0#32, nt w, 1#32⟩ :=
  congrArg (fun u => (⟨0#32, u, 1#32⟩ : Scf.Loop 32)) (ub_eq (nt w))

theorem t2_loop_eq (w : BitVec 32) : k0_t2_loop w = ⟨nt w, nt w, 1#32⟩ :=
  congrArg₂ (fun u v => (⟨u, v, 1#32⟩ : Scf.Loop 32)) (ub_eq (nt w)) (end_eq (nt w))

theorem t4_loop_eq (w : BitVec 32) : k0_t4_loop w = ⟨nt w, nt w, 1#32⟩ :=
  congrArg₂ (fun u v => (⟨u, v, 1#32⟩ : Scf.Loop 32)) (ub_eq (nt w)) (end_eq (nt w))

theorem t1_trips (w : BitVec 32) : (k0_t1_loop w).trips = Scf.trips 0#32 (nt w) 1#32 := by rw [t1_loop_eq]
theorem t3_trips (w : BitVec 32) : (k0_t3_loop w).trips = Scf.trips 0#32 (nt w) 1#32 := by rw [t3_loop_eq]
theorem t2_trips (w : BitVec 32) : (k0_t2_loop w).trips = 0 := by rw [t2_loop_eq]; exact trips_self _
theorem t4_trips (w : BitVec 32) : (k0_t4_loop w).trips = 0 := by rw [t4_loop_eq]; exact trips_self _

theorem off2_eq (w : BitVec 32) (k : Fin (k0_t1_loop w).trips) (hk : k.val < 6) : k0_off2 w k = ![0, 256 * k.val, 0] :=
  congrArg (fun u => ![0, u, 0]) (mult_toNat k.val hk)
theorem off3_eq (w : BitVec 32) (k : Fin (k0_t1_loop w).trips) (hk : k.val < 6) : k0_off3 w k = ![256 * k.val, 0] :=
  congrArg (fun u => ![u, 0]) (mult_toNat k.val hk)
theorem off6_eq (w : BitVec 32) (k : Fin (k0_t3_loop w).trips) (hk : k.val < 6) : k0_off6 w k = ![256 * k.val, 0] :=
  congrArg (fun u => ![u, 0]) (mult_toNat k.val hk)
theorem off7_eq (w : BitVec 32) (k : Fin (k0_t3_loop w).trips) (hk : k.val < 6) : k0_off7 w k = ![0, 0, 256 * k.val] :=
  congrArg (fun u => ![0, 0, u]) (mult_toNat k.val hk)

/-- The number of keys being at most 1536 is all the body asks of it. -/
theorem chk1_of (w : BitVec 32) (h : w.toInt ≤ 1536) : k0_chk1 w := by
  have h6 := trips_le w h
  have hk1 : ∀ k : Fin (k0_t1_loop w).trips, k.val < 6 := fun k => lt_of_lt_of_le k.isLt (by rw [t1_trips]; exact h6)
  have hk3 : ∀ k : Fin (k0_t3_loop w).trips, k.val < 6 := fun k => lt_of_lt_of_le k.isLt (by rw [t3_trips]; exact h6)
  have hk2 : ∀ k : Fin (k0_t2_loop w).trips, False := fun k => by
    have h1 := k.isLt
    have h2 := t2_trips w
    omega
  have hk4 : ∀ k : Fin (k0_t4_loop w).trips, False := fun k => by
    have h1 := k.isLt
    have h2 := t4_trips w
    omega
  refine ⟨by rw [t1_loop_eq]; exact ok w h, fun k => ?_, fun k => ?_, fun k => ?_, by rw [t2_loop_eq]; exact ok_self _,
    fun k => (hk2 k).elim, fun k => (hk2 k).elim, fun k => (hk2 k).elim, by rw [t3_loop_eq]; exact ok w h, fun k => ?_, fun k => ?_, fun k => ?_,
    by rw [t4_loop_eq]; exact ok_self _, fun k => (hk4 k).elim, fun k => (hk4 k).elim, fun k => (hk4 k).elim⟩
  · exact ⟨k.val, mult_toNat k.val (hk1 k)⟩
  · have := hk1 k
    rw [off2_eq w k (hk1 k)]
    intro a; fin_cases a
    · show 0 + 1 ≤ 1; omega
    · show 256 * k.val + 256 ≤ 1536; omega
    · show 0 + 128 ≤ 128; omega
  · have := hk1 k
    rw [off3_eq w k (hk1 k)]
    intro a; fin_cases a
    · show 256 * k.val + 256 ≤ 1536; omega
    · show 0 + 256 ≤ 256; omega
  · exact ⟨k.val, mult_toNat k.val (hk3 k)⟩
  · have := hk3 k
    rw [off6_eq w k (hk3 k)]
    intro a; fin_cases a
    · show 256 * k.val + 256 ≤ 1536; omega
    · show 0 + 256 ≤ 256; omega
  · have := hk3 k
    rw [off7_eq w k (hk3 k)]
    intro a; fin_cases a
    · show 0 + 1 ≤ 1; omega
    · show 0 + 128 ≤ 128; omega
    · show 256 * k.val + 256 ≤ 1536; omega

end Cert.KernelIdeal.Gen

end
-- ==== Proof.KI.Points.lean ====
/-
  THE IDEAL TWIN'S SCHEDULE: which grid points fetch and flush each window, and which staging buffer each uses.
-/
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F] [Named F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 1 (fun _ => rfl) (by decide)) (P := 1) (by decide) t).mpr (Nat.mod_one _) : ∀ t : Fin grid0.N, Pipeline.Window.fetchOf grid0 false cc0_transform_0 t = true)
/-- Window 1 (operand 2 (%1)) is fetched at the points ≡ 0 (mod 128), at any contents of the tables (its index map reads none). -/
theorem fetch0_1 (a : (pcfg0 (F := F)).Adm) : ∀ t : Fin (cfg0 a).N, ((cfg0 a).win 1).fetch t = true ↔ t.val % 128 = 0 :=
  (fun t => Pipeline.Window.fetchOf_reads cc0_transform_1 reads0_1 hreads0_1 0 (by decide) (by decide) (Pipeline.Window.sep_of_coord cc0_transform_1 0 0 (fun _ => rfl) (by decide)) (P := 128) (by decide) t : ∀ t : Fin grid0.N, Pipeline.Window.fetchOf grid0 false cc0_transform_1 t = true ↔ t.val % 128 = 0)
/-- Window 2 (operand 3 (%5)) is fetched at the points ≡ 0 (mod 128), at any contents of the tables (its index map reads none). -/
theorem fetch0_2 (a : (pcfg0 (F := F)).Adm) : ∀ t : Fin (cfg0 a).N, ((cfg0 a).win 2).fetch t = true ↔ t.val % 128 = 0 :=
  (fun t => Pipeline.Window.fetchOf_reads cc0_transform_2 reads0_2 hreads0_2 0 (by decide) (by decide) (Pipeline.Window.sep_of_coord cc0_transform_2 0 0 (fun _ => rfl) (by decide)) (P := 128) (by decide) t : ∀ t : Fin grid0.N, Pipeline.Window.fetchOf grid0 false cc0_transform_2 t = true ↔ t.val % 128 = 0)
/-- Window 3 (operand 4 (%7)) is fetched at the points ≡ 0 (mod 128), at any contents of the tables (its index map reads none). -/
theorem fetch0_3 (a : (pcfg0 (F := F)).Adm) : ∀ t : Fin (cfg0 a).N, ((cfg0 a).win 3).fetch t = true ↔ t.val % 128 = 0 :=
  (fun t => Pipeline.Window.fetchOf_reads cc0_transform_3 reads0_3 hreads0_3 0 (by decide) (by decide) (Pipeline.Window.sep_of_coord cc0_transform_3 0 0 (fun _ => rfl) (by decide)) (P := 128) (by decide) t : ∀ t : Fin grid0.N, Pipeline.Window.fetchOf grid0 false cc0_transform_3 t = true ↔ t.val % 128 = 0)
/-- Window 4 (operand 5 (%8)) is fetched at the first point only, at any contents of the tables (its index map reads none). -/
theorem fetch0_4 (a : (pcfg0 (F := F)).Adm) : ∀ t : Fin (cfg0 a).N, ((cfg0 a).win 4).fetch t = true ↔ t.val % 1152 = 0 :=
  (fun t => Pipeline.Window.fetchOf_const cc0_transform_4 (fun _ _ => rfl) (n := 1152) (by decide) t : ∀ t : Fin grid0.N, Pipeline.Window.fetchOf grid0 false cc0_transform_4 t = true ↔ t.val % 1152 = 0)
/-- Window 5 (result 0 (%9#0)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 1 (by decide) (by decide) (Pipeline.Window.sep_of_coord cc0_transform_5 1 1 (fun _ => rfl) (by decide)) (P := 1) (m := 0) (by decide) rfl t).mpr (Nat.mod_one _) : ∀ t : Fin grid0.N, Pipeline.Window.flushOf grid0 true cc0_transform_5 t = true)
/-- Window 6 (result 1 (%9#1)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 1 (by decide) (by decide) (Pipeline.Window.sep_of_coord cc0_transform_6 1 1 (fun _ => rfl) (by decide)) (P := 1) (m := 0) (by decide) rfl t).mpr (Nat.mod_one _) : ∀ t : Fin grid0.N, Pipeline.Window.flushOf grid0 true cc0_transform_6 t = true)
/-- Window 7 (result 2 (%9#2)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 1 (by decide) (by decide) (Pipeline.Window.sep_of_coord cc0_transform_7 1 2 (fun _ => rfl) (by decide)) (P := 1) (m := 0) (by decide) rfl t).mpr (Nat.mod_one _) : ∀ t : Fin grid0.N, Pipeline.Window.flushOf grid0 true cc0_transform_7 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_fp8_gqa (grid0.coords t) (Memref.whole main_arg5) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _)

end Cert.KernelIdeal.Gen

end
-- ==== Proof.KI.Runs.lean ====
/-
  WHAT THE RUNS OF THE IDEAL TWIN SHARE: what the host leaves in each array, the prefetched lengths and each window's
  block at a point.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.KI.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S9 .i32 := Memref.whole main_arg5
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩) h

/-! ## The kernel body on any staging memrefs: a subtype the run finds -/

/-- One staging buffer of output window 5, through which its contents are stated (`View.read_writes_of_cover`: the
    choice does not matter). -/
abbrev VO0_5 : View sig .tc .vmem S1x256x128 .bf16 := (Memref.whole cc0_stg5_0 : Memref sig .tc .vmem S1x256x128 .bf16).view
/-- One staging buffer of output window 6, through which its contents are stated (`View.read_writes_of_cover`: the
    choice does not matter). -/
abbrev VO0_6 : View sig .tc .vmem S1x256x128 .fp8e4m3 := (Memref.whole cc0_stg6_0 : Memref sig .tc .vmem S1x256x128 .fp8e4m3).view
/-- One staging buffer of output window 7, through which its contents are stated (`View.read_writes_of_cover`: the
    choice does not matter). -/
abbrev VO0_7 : View sig .tc .vmem S1x1x256 .f32 := (Memref.whole cc0_stg7_0 : Memref sig .tc .vmem S1x1x256 .f32).view
/-- Each window's current staging memref at point `t`, spelled as the pipeline passes it (`bodyAt0`), and its wholeness. -/
abbrev ms0_0 (hO : Ok m) (t : Fin (cfgM m hO).N) : Memref sig .tc .vmem S1x256x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1536x128 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1536x128 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x128x1536 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .smem S9 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x256x128 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x256x128 .fp8e4m3 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1x256 .f32 := spec0_7.stage ((cfgM m hO).slots t 7)
abbrev hs0_7 (hO : Ok m) (t : Fin (cfgM m hO).N) : (ms0_7 m hO t).IsWhole := hstage0_7 (((cfgM m hO).slots t 7).cast nbuf0_7)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (tbM0_0.view.readAt (Elt F) (Rect.unit (s := S9) (k0_off1 (grid0.coords t)) S1.size (k0_off1_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (tbM0_0.view.readAt (Elt F) (Rect.unit (s := S9) (k0_off1 (grid0.coords t)) S1.size (k0_off1_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (tbM0_0.view.readAt (Elt F) (Rect.unit (s := S9) (k0_off1 (grid0.coords t)) S1.size (k0_off1_inb (grid0.coords t))).toLoadRect (tbl m 0) (Shape.Idx.first (numel1_S1.symm ▸ Nat.one_pos))) := (hH c t)
variable {m} in
theorem Hyps.of {hO : Ok m}
    (p0 : ∀ (c : Dev nD) (t : Fin (cfgM m hO).N), Hyps.p0 m hO c t) :
    Hyps m hO := fun c t =>
  p0 c t

/-- The scratch operands: whole scoped buffers of the kernel's own, passed beside the windows. -/
abbrev scM0_0 : Memref sig .tc .vmem S1536x256 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Gen

end
-- ==== Proof.KI.Run.lean ====
/-
  THE IDEAL TWIN'S BODY, RUN ONCE: from its staging buffers, its scratch and the prefetched lengths, at any grid point,
  the body reaches its end, each output holding the pieces its stores left.
-/
module

public import proofs.«01_k».proof.Proof.KI.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg3 : Memref sig .tc .vmem S1x256x128 .bf16) (harg3 : arg3.IsWhole) (arg4 : Memref sig .tc .vmem S1x1536x128 .fp8e4m3) (harg4 : arg4.IsWhole) (arg5 : Memref sig .tc .vmem S1x1536x128 .f32) (harg5 : arg5.IsWhole) (arg6 : Memref sig .tc .vmem S1x128x1536 .fp8e4m3) (harg6 : arg6.IsWhole) (arg7 : Memref sig .tc .smem S9 .f32) (harg7 : arg7.IsWhole) (arg8 : Memref sig .tc .vmem S1x256x128 .bf16) (harg8 : arg8.IsWhole) (arg9 : Memref sig .tc .vmem S1x256x128 .fp8e4m3) (harg9 : arg9.IsWhole) (arg10 : Memref sig .tc .vmem S1x1x256 .f32) (harg10 : arg10.IsWhole) (arg11 : Memref sig .tc .vmem S1536x256 .f32) (harg11 : arg11.IsWhole)
    (x0 : Vec F S1x256x128 .bf16) (x1 : Vec F S1x1536x128 .fp8e4m3) (x2 : Vec F S1x1536x128 .f32) (x3 : Vec F S1x128x1536 .fp8e4m3) (x4 : Vec F S9 .f32) (ds0 : Vec F S1536x256 .f32) (xt0 : TbBuf0 (F := F) c tbM0_0) (k0_hw1 : k0_chk1 (tbM0_0.view.readAt (Elt F) (Rect.unit (s := S9) (k0_off1 i) S1.size (k0_off1_inb i)).toLoadRect xt0 (Shape.Idx.first (numel1_S1.symm ▸ Nat.one_pos)))) :
    Σ' (L5 : List (View.Piece (Elt F) S1x256x128 .bf16)), Σ' (L6 : List (View.Piece (Elt F) S1x256x128 .fp8e4m3)), { L7 : List (View.Piece (Elt F) S1x1x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare ds0 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ d, owns (c : Thread nD τ) arg11 fullShare d) ∗ tbPt0 c tbM0_0 xt0) -∗ K ⟨⟩))
          ⊢ wp frame (wpE (defs₀ (F := F)) Variants.none c none) E (cc0_fp8_gqa i tbM0_0 htbM0_0 arg3 harg3 arg4 harg4 arg5 harg5 arg6 harg6 arg7 harg7 arg8 harg8 arg9 harg9 arg10 harg10 arg11 harg11) K } := by
  refine ⟨?_, ?_, ?_, fun E K => ?run⟩
  case run =>
    simp only [cc0_fp8_gqa_eq_skeleton]; unfold cc0_fp8_gqa_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg11.eq_unread hfs0
    sl_exec (disch := first | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    isplitl [H7]; · iexists _; iexact H7
    isplitl [HS0]
    · iexists _, _; isplitr; swap; · iexact HS0
      ipureintro; rfl
    iexact HT0

end Cert.KernelIdeal.Gen

end
-- ==== Proof.Sums.lean ====
/-
  KEYS IN TILES. A run over `n` tiles of 256 keys, eight keys at a time, visits the keys below `256 n` once each: the
  maxima and the sums taken tile by tile are the maximum and the sum over the keys.
-/
module

public import Mathlib.Data.EReal.Operations
public import Mathlib.Algebra.BigOperators.Fin
public import Mathlib.Algebra.BigOperators.Intervals

@[expose] public section

namespace Cert.Sums

/-- The largest of the keys below `256 n`, taken lane by lane. -/
theorem sup_tiles (n : ℕ) (f : ℕ → EReal) :
    (Finset.univ.sup fun s : Fin 8 => (Finset.range n).sup fun k => Finset.univ.sup fun x : Fin 32 => f (256 * k + (x.val * 8 + s.val)))
      = (Finset.range (256 * n)).sup f := by
  apply le_antisymm
  · refine Finset.sup_le fun s _ => Finset.sup_le fun k hk => Finset.sup_le fun x _ => ?_
    refine Finset.le_sup (f := f) (Finset.mem_range.2 ?_)
    have := Finset.mem_range.1 hk
    omega
  · refine Finset.sup_le fun P hP => ?_
    have hP := Finset.mem_range.1 hP
    have e : P = 256 * (P / 256) + ((P % 256 / 8) * 8 + P % 8) := by omega
    refine le_trans ?_ (Finset.le_sup (f := fun s : Fin 8 => (Finset.range n).sup fun k => Finset.univ.sup fun x : Fin 32 => f (256 * k + (x.val * 8 + s.val)))
      (Finset.mem_univ ⟨P % 8, by omega⟩))
    refine le_trans ?_ (Finset.le_sup (f := fun k => Finset.univ.sup fun x : Fin 32 => f (256 * k + (x.val * 8 + P % 8)))
      (Finset.mem_range.2 (show P / 256 < n by omega)))
    refine le_trans ?_ (Finset.le_sup (f := fun x : Fin 32 => f (256 * (P / 256) + (x.val * 8 + P % 8)))
      (Finset.mem_univ ⟨P % 256 / 8, by omega⟩))
    exact le_of_eq (congrArg f e)

/-- The sum of the keys below `256 n`, a tile at a time. -/
theorem sum_tiles (n : ℕ) (f : ℕ → EReal) :
    (∑ k ∈ Finset.range n, ∑ p : Fin 256, f (256 * k + p.val)) = ∑ P ∈ Finset.range (256 * n), f P := by
  induction n with
  | zero => simp
  | succ n ih =>
    rw [Finset.sum_range_succ, ih, show 256 * (n + 1) = 256 * n + 256 by ring, Finset.sum_range_add, ← Fin.sum_univ_eq_sum_range (fun p => f (256 * n + p))]

/-- A tile's sum, lane by lane. -/
theorem sum_tile (f : ℕ → EReal) :
    (∑ s : Fin 8, ∑ x : Fin 32, f (x.val * 8 + s.val)) = ∑ p : Fin 256, f p.val := by
  have h := Equiv.sum_comp (finProdFinEquiv (m := 32) (n := 8)) (fun p : Fin (32 * 8) => f p.val)
  rw [Fintype.sum_prod_type, Finset.sum_comm] at h
  refine Eq.trans ?_ h
  refine Finset.sum_congr rfl fun s _ => Finset.sum_congr rfl fun x _ => congrArg f ?_
  show x.val * 8 + s.val = s.val + 8 * x.val
  ring

/-- The sum of the keys below `256 n`, lane by lane. -/
theorem sum_lanes (n : ℕ) (f : ℕ → EReal) :
    (∑ s : Fin 8, ∑ k ∈ Finset.range n, ∑ x : Fin 32, f (256 * k + (x.val * 8 + s.val))) = ∑ P ∈ Finset.range (256 * n), f P := by
  rw [Finset.sum_comm, ← sum_tiles]
  exact Finset.sum_congr rfl fun k _ => sum_tile fun p => f (256 * k + p)

/-- Keys from `m` on that add nothing. -/
theorem sum_extend {m N : ℕ} (h : m ≤ N) (f : ℕ → EReal) (hf : ∀ P, m ≤ P → f P = 0) :
    ∑ P ∈ Finset.range m, f P = ∑ P ∈ Finset.range N, f P := by
  refine Finset.sum_subset (Finset.range_subset_range.2 h) fun P _ hP => hf P ?_
  simpa using hP

theorem sup_extend {m N : ℕ} (h : m ≤ N) (f : ℕ → EReal) (hf : ∀ P, m ≤ P → f P = ⊥) :
    (Finset.range m).sup f = (Finset.range N).sup f := by
  refine le_antisymm (Finset.sup_mono (Finset.range_subset_range.2 h)) (Finset.sup_le fun P _ => ?_)
  by_cases hP : P < m
  · exact Finset.le_sup (f := f) (Finset.mem_range.2 hP)
  · rw [hf P (by omega)]; exact bot_le

end Cert.Sums

end
-- ==== Proof.KI.Loop1.lean ====
/-
  THE FIRST PASS OVER THE KEYS, READ. Each trip takes one tile of 256 keys, stores its scores, and keeps a running
  maximum; after the loop the maximum is over the keys below `256 n`, and every piece stored agrees with ONE function
  of the key and the row: the row's raw score of that key (`Spec.kz`).
-/
module

public import proofs.«01_k».proof.Proof.KI.Pay
public import proofs.«01_k».proof.Proof.KI.Bounds
public import proofs.«01_k».proof.Proof.KI.Run
public import proofs.«01_k».proof.Proof.Words
public import proofs.«01_k».proof.Proof.Sums
public import Idealize.ShloMosaic.Lib.Pipeline.ValueKit

@[expose] public section

set_option maxRecDepth 8192

noncomputable section

namespace Cert.KernelIdeal.Gen

open Idealize.ShloMosaic Idealize.ShloMosaic.TcCoe Idealize.ShloMosaic.Tactic Idealize.SL Idealize.SL.Sem Cert.Spec Cert.Quant Cert.Words

variable (𝒱 : Variants) (c : Dev nD) (bd : Option 𝒱.V) (i : grid0.Coords) (arg2 : Memref sig .tc .smem S9 .i32) (harg2 : arg2.IsWhole) (arg3 : Memref sig .tc .vmem S1x256x128 .bf16) (harg3 : arg3.IsWhole) (arg4 : Memref sig .tc .vmem S1x1536x128 .fp8e4m3) (harg4 : arg4.IsWhole) (arg5 : Memref sig .tc .vmem S1x1536x128 .f32) (harg5 : arg5.IsWhole) (arg6 : Memref sig .tc .vmem S1x128x1536 .fp8e4m3) (harg6 : arg6.IsWhole) (arg7 : Memref sig .tc .smem S9 .f32) (harg7 : arg7.IsWhole) (arg8 : Memref sig .tc .vmem S1x256x128 .bf16) (harg8 : arg8.IsWhole) (arg9 : Memref sig .tc .vmem S1x256x128 .fp8e4m3) (harg9 : arg9.IsWhole) (arg10 : Memref sig .tc .vmem S1x1x256 .f32) (harg10 : arg10.IsWhole) (arg11 : Memref sig .tc .vmem S1536x256 .f32) (harg11 : arg11.IsWhole)
  (w : BitVec 32) (hw : k0_chk1 w) (v3 : BitVec 32)

/-- The keys trip `k` reads. -/
abbrev r2 (k : Fin (k0_t1_loop w).trips) : Rect S1x1536x128 := Rect.unit (s := S1x1536x128) (k0_off2 w k) S1x256x128.size (k0_off2_inb w hw k)

/-- The scores trip `k` stores. -/
abbrev r3 (k : Fin (k0_t1_loop w).trips) : Rect S1536x256 := Rect.unit (s := S1536x256) (k0_off3 w k) S256x256.size (k0_off3_inb w hw k)

section Trip

variable (codes : FVec Ideal S256x128 .fp8e4m3) (v110 : FVec Ideal S1x256 .f32) (v165 v167 v169 v170 : IVec S1x256 32)
  (x1 : Vec Ideal S1x1536x128 .fp8e4m3) (x2 : Vec Ideal S1x1536x128 .f32) (k : Fin (k0_t1_loop w).trips) (acc : FVec Ideal S8x256 .f32)

theorem tripR1_eq :
    tripR_k0_t1 (F := Ideal) 𝒱 c bd i arg2 harg2 arg3 harg3 arg4 harg4 arg5 harg5 arg6 harg6 arg7 harg7 arg8 harg8 arg9 harg9 arg10 harg10 arg11 harg11 w hw v3 codes v110 v165 v167 v169 v170 (harg4.unread x1) (harg5.unread x2) k acc
      = k0_pay30 (F := Ideal) w codes k acc (View.ld x1 (r2 w hw k)) (View.ld x2 (r2 w hw k)) := by
  unfold tripR_k0_t1 trip_k0_t1
  dsimp only
  sl_unfold_words
  simp only [View.readAt_eq_ld, harg4.read_unread, harg5.read_unread]
  rfl

theorem tripL1_eq :
    tripL_k0_t1 (F := Ideal) 𝒱 c bd i arg2 harg2 arg3 harg3 arg4 harg4 arg5 harg5 arg6 harg6 arg7 harg7 arg8 harg8 arg9 harg9 arg10 harg10 arg11 harg11 w hw v3 codes v110 v165 v167 v169 v170 (harg4.unread x1) (harg5.unread x2) k acc
      = [⟨r3 w hw k, k0_pay29 (F := Ideal) w codes k (View.ld x1 (r2 w hw k)) (View.ld x2 (r2 w hw k))⟩] := by
  unfold tripL_k0_t1 trip_k0_t1
  dsimp only
  sl_unfold_words
  simp only [View.readAt_eq_ld, harg4.read_unread, harg5.read_unread]
  rfl

end Trip

/-! ## The keys, by number -/

/-- Key `P` of a batch. -/
def keyAt (x1 : Vec Ideal S1x1536x128 .fp8e4m3) (P : ℕ) (d : Fin 128) : EReal := if h : P < 1536 then x1 (ix3 0 ⟨P, h⟩ d) else 0

/-- The scale of key `P`, in the lane of row `r`. -/
def kscAt (x2 : Vec Ideal S1x1536x128 .f32) (r : Fin 256) (P : ℕ) : EReal :=
  if h : P < 1536 then x2 (ix3 0 ⟨P, h⟩ ⟨r.val % 128, Nat.mod_lt _ (by norm_num)⟩) else 0

/-- The raw score of row `r` of a query block at key `P`. -/
def zAt (x0 : Vec Ideal S1x256x128 .bf16) (x1 : Vec Ideal S1x1536x128 .fp8e4m3) (x2 : Vec Ideal S1x1536x128 .f32) (w : BitVec 32) (r : Fin 256) (P : ℕ) : EReal :=
  kz (qrow x0 r) (keyAt x1) (kscAt x2 r) w.toInt P

theorem ld_key (x1 : Vec Ideal S1x1536x128 .fp8e4m3) (k : Fin (k0_t1_loop w).trips) (hk : k.val < 6) (p : Fin 256) (d : Fin 128) :
    View.ld x1 (r2 w hw k) (ix3 0 p d) = keyAt x1 (256 * k.val + p.val) d := by
  unfold keyAt
  rw [dif_pos (by omega)]
  refine View.ld_unit_apply_of (S := S1x1536x128) x1 _ _ _ _ _ fun a => ?_
  refine Eq.trans ?_ (congrArg (· + _) (congrFun (off2_eq w k hk) a).symm)
  fin_cases a
  · rfl
  · rfl
  · exact (Nat.zero_add _).symm

theorem ld_ksc (x2 : Vec Ideal S1x1536x128 .f32) (k : Fin (k0_t1_loop w).trips) (hk : k.val < 6) (p r : Fin 256) :
    View.ld x2 (r2 w hw k) (ix3 0 p ⟨r.val % 128, Nat.mod_lt _ (by norm_num)⟩) = kscAt x2 r (256 * k.val + p.val) := by
  unfold kscAt
  rw [dif_pos (by omega)]
  refine View.ld_unit_apply_of (S := S1x1536x128) x2 _ _ _ _ _ fun a => ?_
  refine Eq.trans ?_ (congrArg (· + _) (congrFun (off2_eq w k hk) a).symm)
  fin_cases a
  · rfl
  · rfl
  · exact (Nat.zero_add _).symm

/-- A tile's scores are the row's scores of the tile's keys. -/
theorem tile_z (x0 : Vec Ideal S1x256x128 .bf16) (x1 : Vec Ideal S1x1536x128 .fp8e4m3) (x2 : Vec Ideal S1x1536x128 .f32)
    (k : Fin (k0_t1_loop w).trips) (hk : k.val < 6) (p r : Fin 256) :
    k0_pay28 (F := Ideal) w (CODES x0) k (View.ld x1 (r2 w hw k)) (View.ld x2 (r2 w hw k)) (ix2 p r) = zAt x0 x1 x2 w r (256 * k.val + p.val) := by
  rw [pay28_apply w _ k hk]
  unfold zAt kz
  rw [ld_ksc w hw x2 k hk p r]
  refine if_congr Iff.rfl (congrArg (· * _) (Finset.sum_congr rfl fun d _ => ?_)) rfl
  rw [ld_key w hw x1 k hk p d, codes_apply]

/-! ## The loop -/

section Loop

variable (x0 : Vec Ideal S1x256x128 .bf16) (x1 : Vec Ideal S1x1536x128 .fp8e4m3) (x2 : Vec Ideal S1x1536x128 .f32)
  (v110 : FVec Ideal S1x256 .f32) (v165 v167 v169 v170 : IVec S1x256 32)

/-- The scores, all keys and rows. -/
def Z : S1536x256.Idx → EReal := fun y => zAt x0 x1 x2 w (y 1) (y 0).val

/-- The loop's state before trip `n`. -/
abbrev St1 (n : ℕ) : FVec Ideal S8x256 .f32 × List (View.Piece (Elt Ideal) S1536x256 .f32) :=
  st_k0_t1 (F := Ideal) 𝒱 c bd i arg2 harg2 arg3 harg3 arg4 harg4 arg5 harg5 arg6 harg6 arg7 harg7 arg8 harg8 arg9 harg9 arg10 harg10 arg11 harg11 w hw v3 (CODES x0) v110 v165 v167 v169 v170 (harg4.unread x1) (harg5.unread x2) k0_pay27 n

theorem St1_spec (h : w.toInt ≤ 1536) (n : ℕ) (hn : n ≤ (k0_t1_loop w).trips) :
    (∀ (s : Fin 8) (r : Fin 256), (St1 𝒱 c bd i arg2 harg2 arg3 harg3 arg4 harg4 arg5 harg5 arg6 harg6 arg7 harg7 arg8 harg8 arg9 harg9 arg10 harg10 arg11 harg11 w hw v3 x0 x1 x2 v110 v165 v167 v169 v170 n).1 (ix2 s r)
      = (Finset.range n).sup fun k => Finset.univ.sup fun x : Fin 32 => zAt x0 x1 x2 w r (256 * k + (x.val * 8 + s.val))) ∧
    (∀ p ∈ (St1 𝒱 c bd i arg2 harg2 arg3 harg3 arg4 harg4 arg5 harg5 arg6 harg6 arg7 harg7 arg8 harg8 arg9 harg9 arg10 harg10 arg11 harg11 w hw v3 x0 x1 x2 v110 v165 v167 v169 v170 n).2, ∀ x : p.1.shape.Idx, p.2 x = Z w x0 x1 x2 (p.1.emb x)) ∧
    (∀ y : S1536x256.Idx, (y 0).val < 256 * n → ∃ p ∈ (St1 𝒱 c bd i arg2 harg2 arg3 harg3 arg4 harg4 arg5 harg5 arg6 harg6 arg7 harg7 arg8 harg8 arg9 harg9 arg10 harg10 arg11 harg11 w hw v3 x0 x1 x2 v110 v165 v167 v169 v170 n).2, y ∈ p.1.set) := by
  induction n with
  | zero =>
    refine ⟨fun s r => ?_, fun p hp => ?_, fun y hy => ?_⟩
    · show k0_pay27 (F := Ideal) (ix2 s r) = _
      rw [pay27_apply]; rfl
    · exact absurd hp List.not_mem_nil
    · omega
  | succ n ih =>
    obtain ⟨i1, i2, i3⟩ := ih (by omega)
    have h6 := trips_le w h
    rw [← t1_trips] at h6
    have hk : n < 6 := by omega
    have e := st_k0_t1_succ (F := Ideal) 𝒱 c bd i arg2 harg2 arg3 harg3 arg4 harg4 arg5 harg5 arg6 harg6 arg7 harg7 arg8 harg8 arg9 harg9 arg10 harg10 arg11 harg11 w hw v3 (CODES x0) v110 v165 v167 v169 v170 (harg4.unread x1) (harg5.unread x2) k0_pay27 ⟨n, hn⟩
    rw [tripR1_eq, tripL1_eq] at e
    have e' : St1 𝒱 c bd i arg2 harg2 arg3 harg3 arg4 harg4 arg5 harg5 arg6 harg6 arg7 harg7 arg8 harg8 arg9 harg9 arg10 harg10 arg11 harg11 w hw v3 x0 x1 x2 v110 v165 v167 v169 v170 (n + 1) = _ := e
    rw [e']
    refine ⟨fun s r => ?_, fun p hp x => ?_, fun y hy => ?_⟩
    · show k0_pay30 (F := Ideal) w _ _ _ _ _ (ix2 s r) = _
      rw [pay30_apply, Finset.range_add_one, Finset.sup_insert]
      refine (congrArg₂ max (i1 s r) (Finset.sup_congr rfl fun x _ => ?_)).trans (sup_comm _ _)
      exact tile_z w hw x0 x1 x2 ⟨n, hn⟩ hk (tileRow x s) r
    · rcases List.mem_append.1 hp with hp | hp
      · rw [List.mem_singleton] at hp
        subst hp
        obtain ⟨p, r, rfl⟩ : ∃ p r : Fin 256, x = ix2 p r := ⟨x 0, x 1, by funext a; fin_cases a <;> rfl⟩
        show k0_pay29 (F := Ideal) w _ _ _ _ (ix2 p r) = _
        rw [pay29_apply, tile_z w hw x0 x1 x2 ⟨n, hn⟩ hk p r]
        unfold Z
        have c0 : (((r3 w hw ⟨n, hn⟩).emb (ix2 p r)) 0).val = 256 * n + p.val := by
          rw [Rect.emb_apply]
          show (k0_off3 w ⟨n, hn⟩) 0 + 1 * p.val = _
          rw [off3_eq w ⟨n, hn⟩ hk, Nat.one_mul]; rfl
        have c1 : ((r3 w hw ⟨n, hn⟩).emb (ix2 p r)) 1 = r := Fin.ext (by
          rw [Rect.emb_apply]
          show (k0_off3 w ⟨n, hn⟩) 1 + 1 * r.val = _
          rw [off3_eq w ⟨n, hn⟩ hk, Nat.one_mul]; exact Nat.zero_add _)
        show _ = zAt x0 x1 x2 w (((r3 w hw ⟨n, hn⟩).emb (ix2 p r)) 1) (((r3 w hw ⟨n, hn⟩).emb (ix2 p r)) 0).val
        rw [c0, c1]
      · exact i2 p hp x
    · by_cases hy' : (y 0).val < 256 * n
      · obtain ⟨p, hp, hyp⟩ := i3 y hy'
        exact ⟨p, List.mem_append_right _ hp, hyp⟩
      · refine ⟨_, List.mem_append_left _ (List.mem_singleton.2 rfl), ?_⟩
        show y ∈ (r3 w hw ⟨n, hn⟩).set
        rw [Rect.mem_set_unit]
        intro a
        rw [off3_eq w ⟨n, hn⟩ hk]
        fin_cases a
        · show 256 * n ≤ (y 0).val ∧ (y 0).val < 256 * n + 256; omega
        · have := (y 1).isLt
          exact ⟨Nat.zero_le _, by show (y 1).val < 0 + 256; have h2 : (y 1).val < 256 := this; omega⟩

/-- The largest score of each row, as the kernel holds it after the loop. -/
theorem St1_max (h : w.toInt ≤ 1536) (r : Fin 256) :
    k0_pay34 (F := Ideal) (St1 𝒱 c bd i arg2 harg2 arg3 harg3 arg4 harg4 arg5 harg5 arg6 harg6 arg7 harg7 arg8 harg8 arg9 harg9 arg10 harg10 arg11 harg11 w hw v3 x0 x1 x2 v110 v165 v167 v169 v170 (k0_t1_loop w).trips).1 (ix2 0 r)
      = kM (qrow x0 r) (keyAt x1) (kscAt x2 r) w.toInt := by
  have h6 := trips_le w h
  have hl := le_trips w h
  rw [← t1_trips] at h6 hl
  rw [pay34_apply]
  simp only [(St1_spec 𝒱 c bd i arg2 harg2 arg3 harg3 arg4 harg4 arg5 harg5 arg6 harg6 arg7 harg7 arg8 harg8 arg9 harg9 arg10 harg10 arg11 harg11 w hw v3 x0 x1 x2 v110 v165 v167 v169 v170 h _ le_rfl).1]
  rw [Sums.sup_tiles]
  exact Sums.sup_extend (by omega) _ fun P hP => kz_ge _ _ _ _ (by omega)

end Loop

end Cert.KernelIdeal.Gen

end
-- ==== Proof.KI.Loop3.lean ====
/-
  THE SECOND PASS OVER THE KEYS, READ. Each trip takes one tile of 256 stored scores, makes its probabilities, and adds
  to the running sums, of the probabilities and of the values they weigh; after the loop the sums are over the keys below
  `256 n`.
-/
module

public import proofs.«01_k».proof.Proof.KI.Loop1

@[expose] public section

set_option maxRecDepth 8192

noncomputable section

namespace Cert.KernelIdeal.Gen

open Idealize.ShloMosaic Idealize.ShloMosaic.TcCoe Idealize.ShloMosaic.Tactic Idealize.SL Idealize.SL.Sem Cert.Spec Cert.Quant Cert.Words

variable (𝒱 : Variants) (c : Dev nD) (bd : Option 𝒱.V) (i : grid0.Coords) (arg2 : Memref sig .tc .smem S9 .i32) (harg2 : arg2.IsWhole) (arg3 : Memref sig .tc .vmem S1x256x128 .bf16) (harg3 : arg3.IsWhole) (arg4 : Memref sig .tc .vmem S1x1536x128 .fp8e4m3) (harg4 : arg4.IsWhole) (arg5 : Memref sig .tc .vmem S1x1536x128 .f32) (harg5 : arg5.IsWhole) (arg6 : Memref sig .tc .vmem S1x128x1536 .fp8e4m3) (harg6 : arg6.IsWhole) (arg7 : Memref sig .tc .smem S9 .f32) (harg7 : arg7.IsWhole) (arg8 : Memref sig .tc .vmem S1x256x128 .bf16) (harg8 : arg8.IsWhole) (arg9 : Memref sig .tc .vmem S1x256x128 .fp8e4m3) (harg9 : arg9.IsWhole) (arg10 : Memref sig .tc .vmem S1x1x256 .f32) (harg10 : arg10.IsWhole) (arg11 : Memref sig .tc .vmem S1536x256 .f32) (harg11 : arg11.IsWhole)
  (w : BitVec 32) (hw : k0_chk1 w)

/-- The stored scores trip `k` reads … -/
abbrev r6 (k : Fin (k0_t3_loop w).trips) : Rect S1536x256 := Rect.unit (s := S1536x256) (k0_off6 w k) S256x256.size (k0_off6_inb w hw k)

/-- … and the values. -/
abbrev r7 (k : Fin (k0_t3_loop w).trips) : Rect S1x128x1536 := Rect.unit (s := S1x128x1536) (k0_off7 w k) S1x128x256.size (k0_off7_inb w hw k)

section Trip

variable (v199 v209 : FVec Ideal S1x256 .f32) (x3 : Vec Ideal S1x128x1536 .fp8e4m3) (X : BufTy.Contents (Elt Ideal) arg11.view.ty)
  (k : Fin (k0_t3_loop w).trips) (acc : FVec Ideal S8x256 .f32 × FVec Ideal S128x256 .f32)

theorem tripR3_eq :
    tripR_k0_t3 (F := Ideal) 𝒱 c bd i arg2 harg2 arg3 harg3 arg4 harg4 arg5 harg5 arg6 harg6 arg7 harg7 arg8 harg8 arg9 harg9 arg10 harg10 arg11 harg11 w hw v199 v209 (harg6.unread x3) X k acc
      = (k0_pay3 (F := Ideal) v199 v209 acc.1 (View.ld (arg11.view.read (Elt Ideal) X) (r6 w hw k)),
         k0_pay4 (F := Ideal) v199 v209 acc.2 (View.ld (arg11.view.read (Elt Ideal) X) (r6 w hw k)) (View.ld x3 (r7 w hw k))) := by
  unfold tripR_k0_t3 trip_k0_t3
  dsimp only
  sl_unfold_words
  simp only [View.readAt_eq_ld, harg6.read_unread]
  rfl

end Trip

/-- Column `d` of the values at key `P`. -/
def valAt (x3 : Vec Ideal S1x128x1536 .fp8e4m3) (d : Fin 128) (P : ℕ) : EReal := if h : P < 1536 then x3 (ix3 0 d ⟨P, h⟩) else 0

theorem ld_val (x3 : Vec Ideal S1x128x1536 .fp8e4m3) (k : Fin (k0_t3_loop w).trips) (hk : k.val < 6) (d : Fin 128) (p : Fin 256) :
    View.ld x3 (r7 w hw k) (ix3 0 d p) = valAt x3 d (256 * k.val + p.val) := by
  unfold valAt
  rw [dif_pos (by omega)]
  refine View.ld_unit_apply_of (S := S1x128x1536) x3 _ _ _ _ _ fun a => ?_
  refine Eq.trans ?_ (congrArg (· + _) (congrFun (off7_eq w k hk) a).symm)
  fin_cases a
  · rfl
  · exact (Nat.zero_add _).symm
  · rfl

section Loop

variable (x0 : Vec Ideal S1x256x128 .bf16) (x1 : Vec Ideal S1x1536x128 .fp8e4m3) (x2 : Vec Ideal S1x1536x128 .f32)
  (x3 : Vec Ideal S1x128x1536 .fp8e4m3) (v199 v209 : FVec Ideal S1x256 .f32) (X : BufTy.Contents (Elt Ideal) arg11.view.ty)

/-- The row's unnormalised probability of key `P`, times 256. -/
def pAt (r : Fin 256) (P : ℕ) : EReal := kp (qrow x0 r) (keyAt x1) (kscAt x2 r) w.toInt P

/-- A tile of stored scores, read. -/
theorem ld_z (n : ℕ) (hX : ∀ y : S1536x256.Idx, (y 0).val < 256 * n → arg11.view.read (Elt Ideal) X y = Z w x0 x1 x2 y)
    (k : Fin (k0_t3_loop w).trips) (hk : k.val < 6) (hn : k.val < n) (p r : Fin 256) :
    View.ld (arg11.view.read (Elt Ideal) X) (r6 w hw k) (ix2 p r) = zAt x0 x1 x2 w r (256 * k.val + p.val) := by
  have e : View.ld (arg11.view.read (Elt Ideal) X) (r6 w hw k) (ix2 p r) = arg11.view.read (Elt Ideal) X (ix2 ⟨256 * k.val + p.val, by omega⟩ r) := by
    refine View.ld_unit_apply_of (S := S1536x256) _ _ _ _ _ _ fun a => ?_
    refine Eq.trans ?_ (congrArg (· + _) (congrFun (off6_eq w k hk) a).symm)
    fin_cases a
    · rfl
    · exact (Nat.zero_add _).symm
  rw [e, hX]
  · rfl
  · show 256 * k.val + p.val < 256 * n; omega

theorem tile_p (n : ℕ) (hX : ∀ y : S1536x256.Idx, (y 0).val < 256 * n → arg11.view.read (Elt Ideal) X y = Z w x0 x1 x2 y)
    (h199 : ∀ r, v199 (ix2 0 r) = ksc (qrow x0 r)) (h209 : ∀ r, v209 (ix2 0 r) = kM (qrow x0 r) (keyAt x1) (kscAt x2 r) w.toInt)
    (k : Fin (k0_t3_loop w).trips) (hk : k.val < 6) (hn : k.val < n) (p r : Fin 256) :
    k0_pay2 (F := Ideal) v199 v209 (View.ld (arg11.view.read (Elt Ideal) X) (r6 w hw k)) (ix2 p r) = pAt w x0 x1 x2 r (256 * k.val + p.val) := by
  rw [pay2_apply, ld_z arg11 w hw x0 x1 x2 X n hX k hk hn p r, h199, h209]
  rfl

/-- The loop's state before trip `n`. -/
abbrev St3 (n : ℕ) : FVec Ideal S8x256 .f32 × FVec Ideal S128x256 .f32 :=
  st_k0_t3 (F := Ideal) 𝒱 c bd i arg2 harg2 arg3 harg3 arg4 harg4 arg5 harg5 arg6 harg6 arg7 harg7 arg8 harg8 arg9 harg9 arg10 harg10 arg11 harg11 w hw v199 v209 (harg6.unread x3) X (k0_pay35, k0_pay1) n

theorem St3_spec (h : w.toInt ≤ 1536)
    (hX : ∀ y : S1536x256.Idx, (y 0).val < 256 * (k0_t3_loop w).trips → arg11.view.read (Elt Ideal) X y = Z w x0 x1 x2 y)
    (h199 : ∀ r, v199 (ix2 0 r) = ksc (qrow x0 r)) (h209 : ∀ r, v209 (ix2 0 r) = kM (qrow x0 r) (keyAt x1) (kscAt x2 r) w.toInt)
    (n : ℕ) (hn : n ≤ (k0_t3_loop w).trips) :
    (∀ (s : Fin 8) (r : Fin 256), (St3 𝒱 c bd i arg2 harg2 arg3 harg3 arg4 harg4 arg5 harg5 arg6 harg6 arg7 harg7 arg8 harg8 arg9 harg9 arg10 harg10 arg11 harg11 w hw x3 v199 v209 X n).1 (ix2 s r)
      = ∑ k ∈ Finset.range n, ∑ x : Fin 32, pAt w x0 x1 x2 r (256 * k + (x.val * 8 + s.val))) ∧
    (∀ (d : Fin 128) (r : Fin 256), (St3 𝒱 c bd i arg2 harg2 arg3 harg3 arg4 harg4 arg5 harg5 arg6 harg6 arg7 harg7 arg8 harg8 arg9 harg9 arg10 harg10 arg11 harg11 w hw x3 v199 v209 X n).2 (ix2 d r)
      = ∑ k ∈ Finset.range n, ∑ p : Fin 256, valAt x3 d (256 * k + p.val) * clip0 (pAt w x0 x1 x2 r (256 * k + p.val))) := by
  induction n with
  | zero =>
    refine ⟨fun s r => ?_, fun d r => ?_⟩
    · show k0_pay35 (F := Ideal) (ix2 s r) = _
      rw [pay35_apply]; rfl
    · show k0_pay1 (F := Ideal) (ix2 d r) = _
      rw [pay1_apply]; rfl
  | succ n ih =>
    obtain ⟨i1, i2⟩ := ih (by omega)
    have h6 := trips_le w h
    rw [← t3_trips] at h6
    have hk : n < 6 := by omega
    have e := st_k0_t3_succ (F := Ideal) 𝒱 c bd i arg2 harg2 arg3 harg3 arg4 harg4 arg5 harg5 arg6 harg6 arg7 harg7 arg8 harg8 arg9 harg9 arg10 harg10 arg11 harg11 w hw v199 v209 (harg6.unread x3) X (k0_pay35, k0_pay1) ⟨n, hn⟩
    rw [tripR3_eq] at e
    have e' : St3 𝒱 c bd i arg2 harg2 arg3 harg3 arg4 harg4 arg5 harg5 arg6 harg6 arg7 harg7 arg8 harg8 arg9 harg9 arg10 harg10 arg11 harg11 w hw x3 v199 v209 X (n + 1) = _ := e
    rw [e']
    refine ⟨fun s r => ?_, fun d r => ?_⟩
    · show k0_pay3 (F := Ideal) v199 v209 _ _ (ix2 s r) = _
      rw [pay3_apply, Finset.sum_range_succ]
      refine congrArg₂ (· + ·) (i1 s r) (Finset.sum_congr rfl fun x _ => ?_)
      exact tile_p arg11 w hw x0 x1 x2 v199 v209 X _ hX h199 h209 ⟨n, hn⟩ hk hn (tileRow x s) r
    · show k0_pay4 (F := Ideal) v199 v209 _ _ _ (ix2 d r) = _
      rw [pay4_apply, Finset.sum_range_succ]
      refine congrArg₂ (· + ·) (i2 d r) (Finset.sum_congr rfl fun p _ => ?_)
      rw [tile_p arg11 w hw x0 x1 x2 v199 v209 X _ hX h199 h209 ⟨n, hn⟩ hk hn p r, ld_val w hw x3 ⟨n, hn⟩ hk d p]

/-- The block's result, from the two sums after the loop. -/
theorem St3_out (h : w.toInt ≤ 1536)
    (hX : ∀ y : S1536x256.Idx, (y 0).val < 256 * (k0_t3_loop w).trips → arg11.view.read (Elt Ideal) X y = Z w x0 x1 x2 y)
    (h199 : ∀ r, v199 (ix2 0 r) = ksc (qrow x0 r)) (h209 : ∀ r, v209 (ix2 0 r) = kM (qrow x0 r) (keyAt x1) (kscAt x2 r) w.toInt)
    (vs : Elt Ideal .f32) (r : Fin 256) (d : Fin 128) :
    k0_pay8 (F := Ideal) (St3 𝒱 c bd i arg2 harg2 arg3 harg3 arg4 harg4 arg5 harg5 arg6 harg6 arg7 harg7 arg8 harg8 arg9 harg9 arg10 harg10 arg11 harg11 w hw x3 v199 v209 X (k0_t3_loop w).trips).1
        (St3 𝒱 c bd i arg2 harg2 arg3 harg3 arg4 harg4 arg5 harg5 arg6 harg6 arg7 harg7 arg8 harg8 arg9 harg9 arg10 harg10 arg11 harg11 w hw x3 v199 v209 X (k0_t3_loop w).trips).2 vs (ix3 0 r d)
      = kout (qrow x0 r) (keyAt x1) (kscAt x2 r) (valAt x3 d) vs w.toInt := by
  have h6 := trips_le w h
  have hl := le_trips w h
  rw [← t3_trips] at h6 hl
  obtain ⟨i1, i2⟩ := St3_spec 𝒱 c bd i arg2 harg2 arg3 harg3 arg4 harg4 arg5 harg5 arg6 harg6 arg7 harg7 arg8 harg8 arg9 harg9 arg10 harg10 arg11 harg11 w hw x0 x1 x2 x3 v199 v209 X h hX h199 h209 _ le_rfl
  rw [pay8_apply, i2]
  simp only [i1]
  rw [Sums.sum_lanes _ (pAt w x0 x1 x2 r), Sums.sum_tiles _ (fun P => valAt x3 d P * clip0 (pAt w x0 x1 x2 r P)),
    Sums.sum_extend (N := 1536) (by omega) (pAt w x0 x1 x2 r) (fun P hP => kp_ge _ _ _ _ (by omega)),
    Sums.sum_extend (N := 1536) (by omega) (fun P => valAt x3 d P * clip0 (pAt w x0 x1 x2 r P)) (fun P hP => by
      show valAt x3 d P * clip0 (kp _ _ _ _ P) = 0
      rw [kp_ge _ _ _ _ (by omega), clip0_zero, mul_zero])]
  rfl

end Loop

end Cert.KernelIdeal.Gen

end
-- ==== Proof.KI.Body.lean ====
/-
  WHAT THE KERNEL BODY LEAVES IN ITS THREE OUTPUT BLOCKS, as closed functions of its input blocks and of the number of
  keys that count: the attention row by row (`Spec.kout`), the codes and the scales of the query.
-/
module

public import proofs.«01_k».proof.Proof.KI.Loop3

@[expose] public section

set_option maxRecDepth 16384

noncomputable section

namespace Cert.KernelIdeal.Gen

open Idealize.ShloMosaic Idealize.ShloMosaic.TcCoe Idealize.ShloMosaic.Tactic Idealize.SL Idealize.SL.Sem Cert.Spec Cert.Quant Cert.Words

/-- The number of keys that count at a grid point: the word of the point's batch. -/
abbrev word (c : Dev nD) (i : grid0.Coords) (xt0 : TbBuf0 (F := Ideal) c tbM0_0) : BitVec 32 :=
  tbM0_0.view.readAt (Elt Ideal) (Rect.unit (s := S9) (k0_off1 i) S1.size (k0_off1_inb i)).toLoadRect xt0 (Shape.Idx.first (numel1_S1.symm ▸ Nat.one_pos))

/-- The batch's scale of the values. -/
def vsAt (x4 : Vec Ideal S9 .f32) (i : grid0.Coords) : EReal :=
  View.ld x4 (Rect.unit (s := S9) (k0_off1 i) S1.size (k0_off1_inb i)) (Shape.Idx.first (numel1_S1.symm ▸ Nat.one_pos))

/-- The attention block … -/
def out5 (x0 : Vec Ideal S1x256x128 .bf16) (x1 : Vec Ideal S1x1536x128 .fp8e4m3) (x2 : Vec Ideal S1x1536x128 .f32) (x3 : Vec Ideal S1x128x1536 .fp8e4m3)
    (vs : EReal) (w : BitVec 32) : Vec Ideal S1x256x128 .bf16 :=
  fun y => kout (qrow x0 (y 1)) (keyAt x1) (kscAt x2 (y 1)) (valAt x3 (y 2)) vs w.toInt

/-- … the block of codes … -/
def out6 (x0 : Vec Ideal S1x256x128 .bf16) : Vec Ideal S1x256x128 .fp8e4m3 := fun y => kcode (qrow x0 (y 1)) (y 2)

/-- … and the block of scales. -/
def out7 (x0 : Vec Ideal S1x256x128 .bf16) : Vec Ideal S1x1x256 .f32 := fun y => kscale (amax (qrow x0 (y 2)))

theorem hz3 : (![0, 0, 0] : Fin 3 → Nat) = fun _ => 0 := by funext a; fin_cases a <;> rfl

section Body

variable (c : Dev nD) (i : grid0.Coords) (arg3 : Memref sig .tc .vmem S1x256x128 .bf16) (harg3 : arg3.IsWhole) (arg4 : Memref sig .tc .vmem S1x1536x128 .fp8e4m3) (harg4 : arg4.IsWhole) (arg5 : Memref sig .tc .vmem S1x1536x128 .f32) (harg5 : arg5.IsWhole) (arg6 : Memref sig .tc .vmem S1x128x1536 .fp8e4m3) (harg6 : arg6.IsWhole) (arg7 : Memref sig .tc .smem S9 .f32) (harg7 : arg7.IsWhole) (arg8 : Memref sig .tc .vmem S1x256x128 .bf16) (harg8 : arg8.IsWhole) (arg9 : Memref sig .tc .vmem S1x256x128 .fp8e4m3) (harg9 : arg9.IsWhole) (arg10 : Memref sig .tc .vmem S1x1x256 .f32) (harg10 : arg10.IsWhole) (arg11 : Memref sig .tc .vmem S1536x256 .f32) (harg11 : arg11.IsWhole)
    (x0 : Vec Ideal S1x256x128 .bf16) (x1 : Vec Ideal S1x1536x128 .fp8e4m3) (x2 : Vec Ideal S1x1536x128 .f32) (x3 : Vec Ideal S1x128x1536 .fp8e4m3) (x4 : Vec Ideal S9 .f32) (ds0 : Vec Ideal S1536x256 .f32) (xt0 : TbBuf0 (F := Ideal) c tbM0_0) (hw : k0_chk1 (word c i xt0))

/-- The state after the first loop. -/
abbrev T1 : FVec Ideal S8x256 .f32 × List (View.Piece (Elt Ideal) S1536x256 .f32) :=
  St1 Variants.none c none i tbM0_0 htbM0_0 arg3 harg3 arg4 harg4 arg5 harg5 arg6 harg6 arg7 harg7 arg8 harg8 arg9 harg9 arg10 harg10 arg11 harg11 (word c i xt0) hw (Scalar.divsi (Scalar.addi (word c i xt0) 255#32) 256#32) x0 x1 x2
    (AMAX x0) (B20 x0) (B21 x0) (B22 x0) k0_pay23 (k0_t1_loop (word c i xt0)).trips

/-- The stored scores' buffer then. -/
abbrev X11 : BufTy.Contents (Elt Ideal) arg11.view.ty :=
  arg11.view.writes (Elt Ideal) (harg11.unread ds0) (T1 c i arg3 harg3 arg4 harg4 arg5 harg5 arg6 harg6 arg7 harg7 arg8 harg8 arg9 harg9 arg10 harg10 arg11 harg11 x0 x1 x2 xt0 hw).2

/-- The state after the second loop. -/
abbrev T3 : FVec Ideal S8x256 .f32 × FVec Ideal S128x256 .f32 :=
  St3 Variants.none c none i tbM0_0 htbM0_0 arg3 harg3 arg4 harg4 arg5 harg5 arg6 harg6 arg7 harg7 arg8 harg8 arg9 harg9 arg10 harg10 arg11 harg11 (word c i xt0) hw x3 (k0_pay26 (AMAX x0) (B20 x0) (B21 x0) (B22 x0) k0_pay23)
    (k0_pay34 (T1 c i arg3 harg3 arg4 harg4 arg5 harg5 arg6 harg6 arg7 harg7 arg8 harg8 arg9 harg9 arg10 harg10 arg11 harg11 x0 x1 x2 xt0 hw).1) (X11 c i arg3 harg3 arg4 harg4 arg5 harg5 arg6 harg6 arg7 harg7 arg8 harg8 arg9 harg9 arg10 harg10 arg11 harg11 x0 x1 x2 ds0 xt0 hw) (k0_t3_loop (word c i xt0)).trips

theorem pieces5 :
    (kernelRun0_A (F := Ideal) c i arg3 harg3 arg4 harg4 arg5 harg5 arg6 harg6 arg7 harg7 arg8 harg8 arg9 harg9 arg10 harg10 arg11 harg11 x0 x1 x2 x3 x4 ds0 xt0 hw).1
      = [⟨Rect.unit (s := S1x256x128) ![0, 0, 0] S1x256x128.size inb_S1x256x128_S1x256x128_0_0_0,
          k0_pay8 (F := Ideal) (T3 c i arg3 harg3 arg4 harg4 arg5 harg5 arg6 harg6 arg7 harg7 arg8 harg8 arg9 harg9 arg10 harg10 arg11 harg11 x0 x1 x2 x3 ds0 xt0 hw).1 (T3 c i arg3 harg3 arg4 harg4 arg5 harg5 arg6 harg6 arg7 harg7 arg8 harg8 arg9 harg9 arg10 harg10 arg11 harg11 x0 x1 x2 x3 ds0 xt0 hw).2 (vsAt x4 i)⟩] := by
  unfold kernelRun0_A
  dsimp only
  sl_unfold_words
  simp only [View.readAt_eq_ld, harg3.read_unread, harg4.read_unread, harg7.read_unread, View.ld_unit_zero (S := S1x256x128) hz3, ub_eq, end_eq, trips_self,
    st_k0_t2, st_k0_t4, List.nil_append, T3, T1, X11, St3, St1, word, vsAt, AMAX, B20, B21, B22, CODES, k0_off1, k0_t1_loop, k0_t3_loop]

theorem pieces6 :
    (kernelRun0_A (F := Ideal) c i arg3 harg3 arg4 harg4 arg5 harg5 arg6 harg6 arg7 harg7 arg8 harg8 arg9 harg9 arg10 harg10 arg11 harg11 x0 x1 x2 x3 x4 ds0 xt0 hw).2.1
      = [⟨Rect.unit (s := S1x256x128) ![0, 0, 0] S1x256x128.size inb_S1x256x128_S1x256x128_0_0_0,
          k0_pay14 (F := Ideal) (k0_pay9 x0) (k0_pay12 (k0_pay10 x0) (k0_pay11 x0) 16#32) 10#32⟩] := by
  unfold kernelRun0_A
  dsimp only
  sl_unfold_words
  simp only [View.readAt_eq_ld, harg3.read_unread, View.ld_unit_zero (S := S1x256x128) hz3]

theorem pieces7 :
    (kernelRun0_A (F := Ideal) c i arg3 harg3 arg4 harg4 arg5 harg5 arg6 harg6 arg7 harg7 arg8 harg8 arg9 harg9 arg10 harg10 arg11 harg11 x0 x1 x2 x3 x4 ds0 xt0 hw).2.2.1
      = [⟨Rect.unit (s := S1x1x256) ![0, 0, 0] S1x1x256.size inb_S1x1x256_S1x1x256_0_0_0,
          k0_pay25 (F := Ideal) (AMAX x0) (B20 x0) (B21 x0) (B22 x0) k0_pay23⟩] := by
  unfold kernelRun0_A
  dsimp only
  sl_unfold_words
  simp only [View.readAt_eq_ld, harg3.read_unread, View.ld_unit_zero (S := S1x256x128) hz3]

/-! ## Read back -/

/-- A block stored whole reads back as stored. -/
theorem read_whole {S : Shape} {e : EltTy} {sp : Space} (v : View sig .tc sp S e) (f : v.ty.Contents (Elt Ideal)) {off : Fin S.rank → Nat} (hz : off = fun _ => 0)
    (inb : ∀ a, off a + S.size a ≤ S.size a) (P : S.Idx → Elt Ideal e) :
    v.read (Elt Ideal) (v.writes (Elt Ideal) f [⟨Rect.unit (s := S) off S.size inb, P⟩]) = P := by
  subst hz
  funext y
  refine View.read_writes_apply_of_pieces v f P _ (fun p hp x => ?_) y ⟨_, List.mem_singleton.2 rfl, ?_⟩
  · rw [List.mem_singleton] at hp
    subst hp
    refine congrArg P (funext fun a => Fin.ext ?_)
    rw [Rect.emb_apply]
    show (x a).val = 0 + 1 * (x a).val
    omega
  · exact View.mem_set_unit_zero rfl inb y

theorem read5 (h : (word c i xt0).toInt ≤ 1536) (f : arg8.view.ty.Contents (Elt Ideal)) :
    arg8.view.read (Elt Ideal) (arg8.view.writes (Elt Ideal) f (kernelRun0_A (F := Ideal) c i arg3 harg3 arg4 harg4 arg5 harg5 arg6 harg6 arg7 harg7 arg8 harg8 arg9 harg9 arg10 harg10 arg11 harg11 x0 x1 x2 x3 x4 ds0 xt0 hw).1)
      = out5 x0 x1 x2 x3 (vsAt x4 i) (word c i xt0) := by
  rw [pieces5, read_whole _ _ hz3]
  funext y
  obtain ⟨r, d, rfl⟩ : ∃ (r : Fin 256) (d : Fin 128), y = ix3 0 r d := ⟨y 1, y 2, by
    funext a; fin_cases a
    · exact Fin.ext (by have := (y 0).isLt; show (y 0).val = 0; have h2 : (y 0).val < 1 := this; omega)
    · rfl
    · rfl⟩
  refine St3_out Variants.none c none i tbM0_0 htbM0_0 arg3 harg3 arg4 harg4 arg5 harg5 arg6 harg6 arg7 harg7 arg8 harg8 arg9 harg9 arg10 harg10 arg11 harg11 (word c i xt0) hw x0 x1 x2 x3 _ _ _ h (fun y hy => ?_) (fun r => pay26_apply x0 r) (fun r => ?_) _ r d
  · have hs := St1_spec Variants.none c none i tbM0_0 htbM0_0 arg3 harg3 arg4 harg4 arg5 harg5 arg6 harg6 arg7 harg7 arg8 harg8 arg9 harg9 arg10 harg10 arg11 harg11 (word c i xt0) hw (Scalar.divsi (Scalar.addi (word c i xt0) 255#32) 256#32) x0 x1 x2
      (AMAX x0) (B20 x0) (B21 x0) (B22 x0) k0_pay23 h _ le_rfl
    rw [t3_trips, ← t1_trips] at hy
    exact View.read_writes_apply_of_pieces arg11.view _ (Z (word c i xt0) x0 x1 x2) _ hs.2.1 y (hs.2.2 y hy)
  · exact St1_max Variants.none c none i tbM0_0 htbM0_0 arg3 harg3 arg4 harg4 arg5 harg5 arg6 harg6 arg7 harg7 arg8 harg8 arg9 harg9 arg10 harg10 arg11 harg11 (word c i xt0) hw (Scalar.divsi (Scalar.addi (word c i xt0) 255#32) 256#32) x0 x1 x2
      (AMAX x0) (B20 x0) (B21 x0) (B22 x0) k0_pay23 h r

theorem read6 (f : arg9.view.ty.Contents (Elt Ideal)) :
    arg9.view.read (Elt Ideal) (arg9.view.writes (Elt Ideal) f (kernelRun0_A (F := Ideal) c i arg3 harg3 arg4 harg4 arg5 harg5 arg6 harg6 arg7 harg7 arg8 harg8 arg9 harg9 arg10 harg10 arg11 harg11 x0 x1 x2 x3 x4 ds0 xt0 hw).2.1) = out6 x0 := by
  rw [pieces6, read_whole _ _ hz3]
  funext y
  obtain ⟨r, d, rfl⟩ : ∃ (r : Fin 256) (d : Fin 128), y = ix3 0 r d := ⟨y 1, y 2, by
    funext a; fin_cases a
    · exact Fin.ext (by have := (y 0).isLt; show (y 0).val = 0; have h2 : (y 0).val < 1 := this; omega)
    · rfl
    · rfl⟩
  exact pay14_apply x0 r d

theorem read7 (f : arg10.view.ty.Contents (Elt Ideal)) :
    arg10.view.read (Elt Ideal) (arg10.view.writes (Elt Ideal) f (kernelRun0_A (F := Ideal) c i arg3 harg3 arg4 harg4 arg5 harg5 arg6 harg6 arg7 harg7 arg8 harg8 arg9 harg9 arg10 harg10 arg11 harg11 x0 x1 x2 x3 x4 ds0 xt0 hw).2.2.1) = out7 x0 := by
  rw [pieces7, read_whole _ _ hz3]
  funext y
  obtain ⟨r, rfl⟩ : ∃ r : Fin 256, y = ix3 0 0 r := ⟨y 2, by
    funext a; fin_cases a
    · exact Fin.ext (by have := (y 0).isLt; show (y 0).val = 0; have h2 : (y 0).val < 1 := this; omega)
    · exact Fin.ext (by have := (y 1).isLt; show (y 1).val = 0; have h2 : (y 1).val < 1 := this; omega)
    · rfl⟩
  exact pay25_apply x0 r

end Body

end Cert.KernelIdeal.Gen

end
-- ==== Proof.KI.Frame.lean ====
/-
  THE KERNEL'S RUN, over the extended reals: what each grid point's three output blocks hold (`out5`, `out6`, `out7` of
  the point's input blocks), the body's obligation to the pipeline at every point, and the run of the whole program.
-/
module

public import proofs.«01_k».proof.Proof.KI.Body
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
/-- Every batch has at most 1536 keys that count. -/
def Lens : Prop := ∀ (c : Dev nD) (i : grid0.Coords), (word c i (tbl m 0)).toInt ≤ 1536

variable {m}

/-- So the body's side condition holds of the word it reads. -/
theorem Lens.chk (hL : Lens m) (c : Dev nD) (i : grid0.Coords) : k0_chk1 (word c i (tbl m 0)) := chk1_of _ (hL c i)

variable (m)

/-! ## What the outputs hold after each point -/

/-- The attention block of point `t`, … -/
def blk5 (hO : Ok m) (c : Dev nD) (t : Fin (cfgM m hO).N) : Vec Ideal S1x256x128 .bf16 :=
  out5 (iblk m hO c 0 t) (iblk m hO c 1 t) (iblk m hO c 2 t) (iblk m hO c 3 t) (vsAt (iblk m hO c 4 t) (grid0.coords t)) (word c (grid0.coords t) (tbl m 0))

/-- … its block of codes … -/
def blk6 (hO : Ok m) (c : Dev nD) (t : Fin (cfgM m hO).N) : Vec Ideal S1x256x128 .fp8e4m3 := out6 (iblk m hO c 0 t)

/-- … and its block of scales. -/
def blk7 (hO : Ok m) (c : Dev nD) (t : Fin (cfgM m hO).N) : Vec Ideal S1x1x256 .f32 := out7 (iblk m hO c 0 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (hL : Lens m) (_ : Fin 1) (c : Dev nD) : Dat τ (Elt Ideal) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => blk5 m hO c t
    | ⟨6, _⟩ => blk6 m hO c t
    | ⟨7, _⟩ => blk7 m hO c t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hL : Lens m) (c : Dev nD) (w : Fin (cfgM m hO).W) : (dats m hO hL 0 c).A w = V m c (Pipeline.arrRef spec0 w) := by
  dsimp only [dats]

/-- What the body leaves, window by window (the proof data's `match` reduced by `dsimp`). -/
theorem after0_0 (hO : Ok m) (hL : Lens m) (c : Dev nD) (t : Fin (cfgM m hO).N) : (dats m hO hL 0 c).after 0 t = iblk m hO c 0 t := by dsimp only [dats]; try rfl
theorem after0_1 (hO : Ok m) (hL : Lens m) (c : Dev nD) (t : Fin (cfgM m hO).N) : (dats m hO hL 0 c).after 1 t = iblk m hO c 1 t := by dsimp only [dats]; try rfl
theorem after0_2 (hO : Ok m) (hL : Lens m) (c : Dev nD) (t : Fin (cfgM m hO).N) : (dats m hO hL 0 c).after 2 t = iblk m hO c 2 t := by dsimp only [dats]; try rfl
theorem after0_3 (hO : Ok m) (hL : Lens m) (c : Dev nD) (t : Fin (cfgM m hO).N) : (dats m hO hL 0 c).after 3 t = iblk m hO c 3 t := by dsimp only [dats]; try rfl
theorem after0_4 (hO : Ok m) (hL : Lens m) (c : Dev nD) (t : Fin (cfgM m hO).N) : (dats m hO hL 0 c).after 4 t = iblk m hO c 4 t := by dsimp only [dats]; try rfl
theorem after0_5 (hO : Ok m) (hL : Lens m) (c : Dev nD) (t : Fin (cfgM m hO).N) : (dats m hO hL 0 c).after 5 t = blk5 m hO c t := by dsimp only [dats]; try rfl
theorem after0_6 (hO : Ok m) (hL : Lens m) (c : Dev nD) (t : Fin (cfgM m hO).N) : (dats m hO hL 0 c).after 6 t = blk6 m hO c t := by dsimp only [dats]; try rfl
theorem after0_7 (hO : Ok m) (hL : Lens m) (c : Dev nD) (t : Fin (cfgM m hO).N) : (dats m hO hL 0 c).after 7 t = blk7 m hO c t := by dsimp only [dats]; try rfl

/-- Each input's current staging buffer holds its block at every point, fetched there or not (`beforeK_W_of`). -/
theorem before0_0 (hO : Ok m) (hL : Lens m) (c : Dev nD) (t : Fin (cfgM m hO).N) (d) : (dats m hO hL 0 c).before 0 t d = iblk m hO c 0 t :=
  before0_0_of m hO (dats m hO hL 0 c) (A_eq m hO hL c 0) (after0_0 m hO hL c) t d
theorem before0_1 (hO : Ok m) (hL : Lens m) (c : Dev nD) (t : Fin (cfgM m hO).N) (d) : (dats m hO hL 0 c).before 1 t d = iblk m hO c 1 t :=
  before0_1_of m hO (dats m hO hL 0 c) (A_eq m hO hL c 1) (after0_1 m hO hL c) t d
theorem before0_2 (hO : Ok m) (hL : Lens m) (c : Dev nD) (t : Fin (cfgM m hO).N) (d) : (dats m hO hL 0 c).before 2 t d = iblk m hO c 2 t :=
  before0_2_of m hO (dats m hO hL 0 c) (A_eq m hO hL c 2) (after0_2 m hO hL c) t d
theorem before0_3 (hO : Ok m) (hL : Lens m) (c : Dev nD) (t : Fin (cfgM m hO).N) (d) : (dats m hO hL 0 c).before 3 t d = iblk m hO c 3 t :=
  before0_3_of m hO (dats m hO hL 0 c) (A_eq m hO hL c 3) (after0_3 m hO hL c) t d
theorem before0_4 (hO : Ok m) (hL : Lens m) (c : Dev nD) (t : Fin (cfgM m hO).N) (d) : (dats m hO hL 0 c).before 4 t d = iblk m hO c 4 t :=
  before0_4_of m hO (dats m hO hL 0 c) (A_eq m hO hL c 4) (after0_4 m hO hL c) t d

/-! ## The body obligation, at a generic point -/

/-- What the body is called with at point `t` (Lib/Pipeline.lean `BodyObligation`'s precondition, the windows one by one), -/
def bodyPre (hO : Ok m) (hL : Lens m) (c : Dev nD) (t : Fin (cfgM m hO).N) : sProp 𝕄 :=
  iprop((dats m hO hL 0 c).Φ t.castSucc ∗ (dats m hO hL 0 c).owesAt () t.castSucc
    ∗ (∃ d, owns (c : Thread nD τ) (ms0_0 m hO t) fullShare ((dats m hO hL 0 c).before 0 t d))
    ∗ (∃ d, owns (c : Thread nD τ) (ms0_1 m hO t) fullShare ((dats m hO hL 0 c).before 1 t d))
    ∗ (∃ d, owns (c : Thread nD τ) (ms0_2 m hO t) fullShare ((dats m hO hL 0 c).before 2 t d))
    ∗ (∃ d, owns (c : Thread nD τ) (ms0_3 m hO t) fullShare ((dats m hO hL 0 c).before 3 t d))
    ∗ (∃ d, owns (c : Thread nD τ) (ms0_4 m hO t) fullShare ((dats m hO hL 0 c).before 4 t d))
    ∗ (∃ d, owns (c : Thread nD τ) (ms0_5 m hO t) fullShare ((dats m hO hL 0 c).before 5 t d))
    ∗ (∃ d, owns (c : Thread nD τ) (ms0_6 m hO t) fullShare ((dats m hO hL 0 c).before 6 t d))
    ∗ (∃ d, owns (c : Thread nD τ) (ms0_7 m hO t) fullShare ((dats m hO hL 0 c).before 7 t d)))

/-- and what it returns. -/
def bodyPost (hO : Ok m) (hL : Lens m) (c : Dev nD) (t : Fin (cfgM m hO).N) : sProp 𝕄 :=
  iprop((dats m hO hL 0 c).Φ t.succ ∗ (dats m hO hL 0 c).owesAt () t.succ
    ∗ owns (c : Thread nD τ) (ms0_0 m hO t) fullShare ((dats m hO hL 0 c).after 0 t)
    ∗ owns (c : Thread nD τ) (ms0_1 m hO t) fullShare ((dats m hO hL 0 c).after 1 t)
    ∗ owns (c : Thread nD τ) (ms0_2 m hO t) fullShare ((dats m hO hL 0 c).after 2 t)
    ∗ owns (c : Thread nD τ) (ms0_3 m hO t) fullShare ((dats m hO hL 0 c).after 3 t)
    ∗ owns (c : Thread nD τ) (ms0_4 m hO t) fullShare ((dats m hO hL 0 c).after 4 t)
    ∗ owns (c : Thread nD τ) (ms0_5 m hO t) fullShare ((dats m hO hL 0 c).after 5 t)
    ∗ owns (c : Thread nD τ) (ms0_6 m hO t) fullShare ((dats m hO hL 0 c).after 6 t)
    ∗ owns (c : Thread nD τ) (ms0_7 m hO t) fullShare ((dats m hO hL 0 c).after 7 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (hO : Ok m) (hL : Lens m) (c : Dev nD) (t : Fin (cfgM m hO).N) :
    bodyPre m hO hL c t ⊢ wp frame (wpE (defs₀ (F := Ideal)) Variants.none c none) Set.univ (bodyAt0 (adm m hO) t) (fun _ => bodyPost m hO hL c t) := by
  unfold bodyPre bodyPost bodyAt0
  simp only [before0_0, before0_1, before0_2, before0_3, before0_4]
  rw [show (dats m hO hL 0 c).Φ t.succ = (dats m hO hL 0 c).Φ t.castSucc from rfl,
    show (dats m hO hL 0 c).owesAt () t.succ = (dats m hO hL 0 c).owesAt () t.castSucc from rfl,
    after0_0, after0_1, after0_2, after0_3, after0_4, after0_5, after0_6, after0_7]
  rw [show (dats m hO hL 0 c).Φ t.castSucc = iprop(Pipeline.ΦA spec0 c ∗ Pipeline.ΦT pre0 (tbl m) c) from rfl, PhiT0_eq, PhiA0_eq]
  iintro ⟨⟨⟨⟨%ds0, HS0⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ (iblk m hO c 0 t) (iblk m hO c 1 t) (iblk m hO c 2 t) (iblk m hO c 3 t) (iblk m hO c 4 t) ds0 (tbl m 0) (hL.chk c (grid0.coords t))).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  isplitl [HT0]; · iexact HT0
  iintro ⟨H0, H1, H2, H3, H4, ⟨%e5, H5⟩, ⟨%e6, H6⟩, ⟨%e7, H7⟩, HS0, HT0⟩
  isplitl [HS0 Hg HT0]
  · isplitl [HS0 Hg]
    · isplitl [HS0]
      · iexact HS0
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact read5 c (grid0.coords t) _ _ _ _ _ _ _ _ _ _ _ _ _ _ _ _ _ _ _ _ _ _ _ ds0 (tbl m 0) (hL.chk c (grid0.coords t)) (hL c (grid0.coords t)) e5
  isplitl [H6]
  · unfold owns; iexists _; isplitr
    swap; · iexact H6
    ipureintro; exact read6 c (grid0.coords t) _ _ _ _ _ _ _ _ _ _ _ _ _ _ _ _ _ _ _ _ _ _ _ ds0 (tbl m 0) (hL.chk c (grid0.coords t)) e6
  unfold owns; iexists _; isplitr
  swap; · iexact H7
  ipureintro; exact read7 c (grid0.coords t) _ _ _ _ _ _ _ _ _ _ _ _ _ _ _ _ _ _ _ _ _ _ _ ds0 (tbl m 0) (hL.chk c (grid0.coords t)) e7

/-- The body table's row at point `t`'s slots is the body as `bodyAt0` spells it. -/
theorem defs₀_row (hO : Ok m) (t : Fin (cfgM m hO).N) :
    defs₀ (F := Ideal) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hL : Lens m) (c : Dev nD) : BodyObligation (dats m hO hL 0 c) (defs₀ (F := Ideal)) Variants.none () Set.univ := fun t => by
  rw [bigSep_W0, bigSep_W0, defs₀_row m hO]
  exact triple_restated (sound_body m hO hL c t) rfl .rfl fun _ => .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hL : Lens m) : θ_run defs (onTc (τ := τ) (main (F := Ideal))) (s₀ m ρ) (fun r => (Pipeline.FramePost (Pipeline.pin pcfgs fun _ => adm m hO) (dats m hO hL) 0 (V m)) r ∧ r.2.sem = fun _ => 0) :=
  Pipeline.θ_run_frameP (Q' := _) pcfgs (fun _ => adm m hO) (dats m hO hL) (0 : Fin 1) launch0 defs₀ Variants.none m ρ main
    (hbody := fun c => (body_obligation m hO hL c).loose) (hshare := fun c => (dats m hO hL 0 c).share_full fun _ => rfl)
    (howed := fun _ _ => rfl) (V := V m) (hmain := hmain m Variants.none) (hA := A_eq m hO hL) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) (hL : Lens m) : θ_run defs (onTc (τ := τ) (main (F := Ideal))) (s₀ m ρ) (Pipeline.FramePost (Pipeline.pin pcfgs fun _ => adm m hO) (dats m hO hL) 0 (V m)) :=
  (θ_run defs _ _).mono (fun _ h => h.1) (run_main_quiescent m ρ hO hL)

/-- `frame` without the counters: the argument arrays end unchanged. -/
theorem unchanged (hO : Ok m) (hL : Lens m) : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO hL) (A_eq m hO hL) (run_main m ρ hO hL)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them) and `Gen.Hyps m hO` (the side conditions the body assumes, at every point), which Proof.lean proves from the precondition: `⟨…, fun m ρ h => Cert.KernelIdeal.Gen.frame m ρ (ok_of_pre m h) (hyps_of_pre m h _)⟩`. -/
theorem frame (hO : Ok m) (hL : Lens m) : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO hL) ((θ_run defs _ _).mono (fun _ h => h.2) (run_main_quiescent m ρ hO hL))

end Cert.KernelIdeal.Gen

end
-- ==== Proof.KI.Blocks.lean ====
/-
  WHERE EACH BLOCK LIES IN ITS ARRAY. Grid point `t` is (batch, tile of 256 query rows): its blocks of the query, of
  the keys, of the keys' scales, of the values and of the three results are read off the arrays at those offsets.
-/
module

public import proofs.«01_k».proof.Proof.KI.Frame

@[expose] public section

set_option maxRecDepth 16384

noncomputable section

namespace Cert.KernelIdeal.Gen

open Idealize.ShloMosaic Idealize.ShloMosaic.TcCoe Idealize.ShloMosaic.Tactic Idealize.SL Idealize.SL.Sem Cert.Spec Cert.Quant

variable (m : (ℓ : Loc nD τ sig) → Buf (Elt Ideal) ℓ)

/-- The batch of a grid point … -/
abbrev gb (i : grid0.Coords) : Fin 9 := i 0
/-- … and its tile of query rows. -/
abbrev gj (i : grid0.Coords) : Fin 128 := i 1

/-- Row `r` of tile `j` in the whole query. -/
def rowOf (j : Fin 128) (r : Fin 256) : Fin 32768 := ⟨j.val * 256 + r.val, by omega⟩

theorem n9 (i : grid0.Coords) : (BitVec.ofNat 32 (i 0).val).toNat = (gb i).val := by
  have h : (i 0).val < 9 := (gb i).isLt
  rw [BitVec.toNat_ofNat]
  exact Nat.mod_eq_of_lt (by omega)

theorem n128 (i : grid0.Coords) : (BitVec.ofNat 32 (i 1).val).toNat = (gj i).val := by
  have h : (i 1).val < 128 := (gj i).isLt
  rw [BitVec.toNat_ofNat]
  exact Nat.mod_eq_of_lt (by omega)

theorem lead (i : Fin 9) (y : Fin 1) (w : Nat) (hw : w = i.val) : w * 1 + y.val = i.val := by omega

variable (hO : Ok m)

theorem emb0 (t : Fin (cfgM m hO).N) (y : S1x256x128.Idx) :
    ((((cfgM m hO).win 0).rect t).emb y : S9x32768x128.Idx) = ix3 (gb (grid0.coords t)) (rowOf (gj (grid0.coords t)) (y 1)) (y 2) := by
  funext a
  apply Fin.ext
  refine (Pipeline.Window.rect_emb_val ((cfgM m hO).win 0) t y a rfl).trans ?_
  fin_cases a
  · exact lead _ (y 0) _ (n9 _)
  · exact congrArg (fun n : Nat => n * 256 + (y 1).val) (n128 (grid0.coords t))
  · exact (congrArg (· + (y 2).val) (Nat.zero_mul 128)).trans (Nat.zero_add _)

theorem iblk0 (c : Dev nD) (t : Fin (cfgM m hO).N) (r : Fin 256) (d : Fin 128) :
    iblk m hO c 0 t (ix3 0 r d) = V m c main_v0 (ix3 (gb (grid0.coords t)) (rowOf (gj (grid0.coords t)) r) d) :=
  congrArg (V m c main_v0) (emb0 m hO t (ix3 0 r d))

theorem emb1 (t : Fin (cfgM m hO).N) (y : S1x1536x128.Idx) :
    ((((cfgM m hO).win 1).rect t).emb y : S9x1536x128.Idx) = ix3 (gb (grid0.coords t)) (y 1) (y 2) := by
  funext a
  apply Fin.ext
  refine (Pipeline.Window.rect_emb_val ((cfgM m hO).win 1) t y a rfl).trans ?_
  fin_cases a
  · exact lead _ (y 0) _ (n9 _)
  · exact (congrArg (· + (y 1).val) (Nat.zero_mul 1536)).trans (Nat.zero_add _)
  · exact (congrArg (· + (y 2).val) (Nat.zero_mul 128)).trans (Nat.zero_add _)

theorem iblk1 (c : Dev nD) (t : Fin (cfgM m hO).N) (r : Fin 1536) (d : Fin 128) :
    iblk m hO c 1 t (ix3 0 r d) = V m c main_v1 (ix3 (gb (grid0.coords t)) r d) :=
  congrArg (V m c main_v1) (emb1 m hO t (ix3 0 r d))

theorem emb2 (t : Fin (cfgM m hO).N) (y : S1x1536x128.Idx) :
    ((((cfgM m hO).win 2).rect t).emb y : S9x1536x128.Idx) = ix3 (gb (grid0.coords t)) (y 1) (y 2) := by
  funext a
  apply Fin.ext
  refine (Pipeline.Window.rect_emb_val ((cfgM m hO).win 2) t y a rfl).trans ?_
  fin_cases a
  · exact lead _ (y 0) _ (n9 _)
  · exact (congrArg (· + (y 1).val) (Nat.zero_mul 1536)).trans (Nat.zero_add _)
  · exact (congrArg (· + (y 2).val) (Nat.zero_mul 128)).trans (Nat.zero_add _)

theorem iblk2 (c : Dev nD) (t : Fin (cfgM m hO).N) (r : Fin 1536) (d : Fin 128) :
    iblk m hO c 2 t (ix3 0 r d) = V m c main_v5 (ix3 (gb (grid0.coords t)) r d) :=
  congrArg (V m c main_v5) (emb2 m hO t (ix3 0 r d))

theorem emb3 (t : Fin (cfgM m hO).N) (y : S1x128x1536.Idx) :
    ((((cfgM m hO).win 3).rect t).emb y : S9x128x1536.Idx) = ix3 (gb (grid0.coords t)) (y 1) (y 2) := by
  funext a
  apply Fin.ext
  refine (Pipeline.Window.rect_emb_val ((cfgM m hO).win 3) t y a rfl).trans ?_
  fin_cases a
  · exact lead _ (y 0) _ (n9 _)
  · exact (congrArg (· + (y 1).val) (Nat.zero_mul 128)).trans (Nat.zero_add _)
  · exact (congrArg (· + (y 2).val) (Nat.zero_mul 1536)).trans (Nat.zero_add _)

theorem iblk3 (c : Dev nD) (t : Fin (cfgM m hO).N) (r : Fin 128) (d : Fin 1536) :
    iblk m hO c 3 t (ix3 0 r d) = V m c main_v7 (ix3 (gb (grid0.coords t)) r d) :=
  congrArg (V m c main_v7) (emb3 m hO t (ix3 0 r d))

theorem emb5 (t : Fin (cfgM m hO).N) (y : S1x256x128.Idx) :
    ((((cfgM m hO).win 5).rect t).emb y : S9x32768x128.Idx) = ix3 (gb (grid0.coords t)) (rowOf (gj (grid0.coords t)) (y 1)) (y 2) := by
  funext a
  apply Fin.ext
  refine (Pipeline.Window.rect_emb_val ((cfgM m hO).win 5) t y a rfl).trans ?_
  fin_cases a
  · exact lead _ (y 0) _ (n9 _)
  · exact congrArg (fun n : Nat => n * 256 + (y 1).val) (n128 (grid0.coords t))
  · exact (congrArg (· + (y 2).val) (Nat.zero_mul 128)).trans (Nat.zero_add _)

theorem emb6 (t : Fin (cfgM m hO).N) (y : S1x256x128.Idx) :
    ((((cfgM m hO).win 6).rect t).emb y : S9x32768x128.Idx) = ix3 (gb (grid0.coords t)) (rowOf (gj (grid0.coords t)) (y 1)) (y 2) := by
  funext a
  apply Fin.ext
  refine (Pipeline.Window.rect_emb_val ((cfgM m hO).win 6) t y a rfl).trans ?_
  fin_cases a
  · exact lead _ (y 0) _ (n9 _)
  · exact congrArg (fun n : Nat => n * 256 + (y 1).val) (n128 (grid0.coords t))
  · exact (congrArg (· + (y 2).val) (Nat.zero_mul 128)).trans (Nat.zero_add _)

theorem emb7 (t : Fin (cfgM m hO).N) (y : S1x1x256.Idx) :
    ((((cfgM m hO).win 7).rect t).emb y : S9x1x32768.Idx) = ix3 (gb (grid0.coords t)) (y 1) (rowOf (gj (grid0.coords t)) (y 2)) := by
  funext a
  apply Fin.ext
  refine (Pipeline.Window.rect_emb_val ((cfgM m hO).win 7) t y a rfl).trans ?_
  fin_cases a
  · exact lead _ (y 0) _ (n9 _)
  · exact (congrArg (· + (y 1).val) (Nat.zero_mul 1)).trans (Nat.zero_add _)
  · exact congrArg (fun n : Nat => n * 256 + (y 2).val) (n128 (grid0.coords t))

theorem emb4 (t : Fin (cfgM m hO).N) (y : S9.Idx) : ((((cfgM m hO).win 4).rect t).emb y : S9.Idx) = y := by
  funext a
  apply Fin.ext
  refine (Pipeline.Window.rect_emb_val ((cfgM m hO).win 4) t y a rfl).trans ?_
  fin_cases a
  exact (congrArg (· + (y 0).val) (Nat.zero_mul 9)).trans (Nat.zero_add _)

theorem iblk4 (c : Dev nD) (t : Fin (cfgM m hO).N) (y : S9.Idx) : iblk m hO c 4 t y = V m c main_v8 y :=
  congrArg (V m c main_v8) (emb4 m hO t y)

/-! ## The batch's two scalars -/

theorem off1_emb (i : grid0.Coords) :
    (Rect.unit (s := S9) (k0_off1 i) S1.size (k0_off1_inb i)).emb (Shape.Idx.first (numel1_S1.symm ▸ Nat.one_pos)) = ix1 (gb i) := by
  funext a
  apply Fin.ext
  refine (Rect.emb_apply _ _ _).trans ?_
  fin_cases a
  have h : k0_off1 i 0 = (gb i).val := by
    exact n9 i
  show k0_off1 i 0 + 1 * (Shape.Idx.first (s := S1) (numel1_S1.symm ▸ Nat.one_pos) 0).val = (gb i).val
  have h1 : (Shape.Idx.first (s := S1) (numel1_S1.symm ▸ Nat.one_pos) 0).val < 1 := (Shape.Idx.first (s := S1) (numel1_S1.symm ▸ Nat.one_pos) 0).isLt
  omega

theorem word_at (c : Dev nD) (i : grid0.Coords) (xt : TbBuf0 (F := Ideal) c tbM0_0) : word c i xt = xt (ix1 (gb i)) :=
  congrArg xt (off1_emb i)

theorem vsAt_at (x4 : Vec Ideal S9 .f32) (i : grid0.Coords) : vsAt x4 i = x4 (ix1 (gb i)) := congrArg x4 (off1_emb i)

end Cert.KernelIdeal.Gen

end
-- ==== Proof.Rows.lean ====
/-
  THE ARGUMENTS, ROW BY ROW: the query row, the keys, the keys' scales, the values and the batch's scalars that one row
  of the result is computed from, as functions of the six arrays the two programs are launched with.
-/
module

public import proofs.«01_k».proof.Proof.Spec
public import Idealize.ShloMosaic.Lib.Pointwise

@[expose] public section

noncomputable section

namespace Cert.Rows

open Idealize.ShloMosaic

/-- Row `R` of batch `b` of the query: the heads are the fast part of `R`. -/
def q (a : Vec Ideal ⟨4, ![9, 4096, 8, 128]⟩ .bf16) (b : Fin 9) (R : Fin 32768) (d : Fin 128) : EReal :=
  a (ix4 b ⟨R.val / 8, by omega⟩ ⟨R.val % 8, by omega⟩ d)

/-- The keys of batch `b`. -/
def key (a : Vec Ideal ⟨4, ![9, 1, 1536, 128]⟩ .fp8e4m3) (b : Fin 9) (P : ℕ) (d : Fin 128) : EReal :=
  if h : P < 1536 then a (ix4 b 0 ⟨P, h⟩ d) else 0

/-- The keys' scales, times the attention's `128^(-1/2)`. -/
def ksc (a : Vec Ideal ⟨3, ![9, 1, 1536]⟩ .f32) (b : Fin 9) (P : ℕ) : EReal :=
  if h : P < 1536 then a (ix3 b 0 ⟨P, h⟩) * Ideal.ofBits .f32 0x3DB504F3#32 else 0

/-- Column `d` of the values of batch `b`. -/
def val (a : Vec Ideal ⟨4, ![9, 1, 1536, 128]⟩ .fp8e4m3) (b : Fin 9) (d : Fin 128) (P : ℕ) : EReal :=
  if h : P < 1536 then a (ix4 b 0 ⟨P, h⟩ d) else 0

end Cert.Rows

end
-- ==== Proof.KI.Host.lean ====
/-
  WHAT THE HOST HANDS THE KERNEL: the arrays the windows read, element by element, in terms of the six arguments.
-/
module

public import proofs.«01_k».proof.Proof.KI.Blocks
public import proofs.«01_k».proof.Proof.Rows
public import Idealize.ShloMosaic.Lib.StableHlo.ReadAt

@[expose] public section

set_option maxRecDepth 16384

noncomputable section

namespace Cert.KernelIdeal.Gen

open Idealize.ShloMosaic Idealize.ShloMosaic.TcCoe Idealize.ShloMosaic.Tactic Idealize.SL Idealize.SL.Sem Cert.Spec Cert.Quant

variable (m : (ℓ : Loc nD τ sig) → Buf (Elt Ideal) ℓ) (c : Dev nD)

theorem host0 (b : Fin 9) (R : Fin 32768) (d : Fin 128) :
    V m c main_v0 (ix3 b R d) = Rows.q (m ((c : Thread nD τ).loc main_arg0)) b R d := by
  unfold V Rows.q
  after_reads_at

theorem host1 (b : Fin 9) (P : Fin 1536) (d : Fin 128) :
    V m c main_v1 (ix3 b P d) = Rows.key (m ((c : Thread nD τ).loc main_arg1)) b P.val d := by
  unfold V Rows.key
  rw [dif_pos P.isLt]
  after_reads_at

theorem host5 (b : Fin 9) (P : Fin 1536) (l : Fin 128) :
    V m c main_v5 (ix3 b P l) = Rows.ksc (m ((c : Thread nD τ).loc main_arg2)) b P.val := by
  unfold V Rows.ksc
  rw [dif_pos P.isLt]
  after_reads_at

theorem host7 (b : Fin 9) (P : Fin 1536) (d : Fin 128) :
    V m c main_v7 (ix3 b d P) = Rows.val (m ((c : Thread nD τ).loc main_arg3)) b d P.val := by
  unfold V Rows.val
  rw [dif_pos P.isLt]
  after_reads_at

theorem host8 (b : Fin 9) : V m c main_v8 (ix1 b) = m ((c : Thread nD τ).loc main_arg4) (ix2 b 0) := by
  unfold V
  after_reads_at

end Cert.KernelIdeal.Gen

end
-- ==== Proof.KI.Value.lean ====
/-
  THE KERNEL'S THREE RESULTS as functions of its arguments: every element of the attention, of the codes and of the
  scales, read off the block of the grid point that writes it.
-/
module

public import proofs.«01_k».proof.Proof.KI.Host
public import Idealize.ShloMosaic.Lib.Pipeline.Covers

@[expose] public section

set_option maxRecDepth 16384

noncomputable section

namespace Cert.KernelIdeal.Gen

open Idealize.ShloMosaic Idealize.ShloMosaic.TcCoe Idealize.ShloMosaic.Tactic Idealize.SL Idealize.SL.Sem Cert.Spec Cert.Quant

variable (m : (ℓ : Loc nD τ sig) → Buf (Elt Ideal) ℓ) (ρ : Dev nD → PrngReg)

/-- The attention … -/
def G5 (c : Dev nD) : Vec Ideal S9x32768x128 .bf16 := fun y =>
  kout (Rows.q (m ((c : Thread nD τ).loc main_arg0)) (y 0) (y 1)) (Rows.key (m ((c : Thread nD τ).loc main_arg1)) (y 0))
    (Rows.ksc (m ((c : Thread nD τ).loc main_arg2)) (y 0)) (Rows.val (m ((c : Thread nD τ).loc main_arg3)) (y 0) (y 2))
    (m ((c : Thread nD τ).loc main_arg4) (ix2 (y 0) 0)) (BitVec.toInt (n := 32) (m ((c : Thread nD τ).loc main_arg5) (ix1 (y 0))))

/-- … the codes … -/
def G6 (c : Dev nD) : Vec Ideal S9x32768x128 .fp8e4m3 := fun y =>
  kcode (Rows.q (m ((c : Thread nD τ).loc main_arg0)) (y 0) (y 1)) (y 2)

/-- … and the scales. -/
def G7 (c : Dev nD) : Vec Ideal S9x1x32768 .f32 := fun y =>
  kscale (amax (Rows.q (m ((c : Thread nD τ).loc main_arg0)) (y 0) (y 2)))

/-! ## From the blocks to the arrays -/

theorem keyAt_of (x1 : Vec Ideal S1x1536x128 .fp8e4m3) (f : ℕ → Fin 128 → EReal) (hf : ∀ P d, ¬P < 1536 → f P d = 0)
    (h : ∀ (P : Fin 1536) d, x1 (ix3 0 P d) = f P.val d) : keyAt x1 = f := by
  funext P d
  unfold keyAt
  split
  · next hP => exact h ⟨P, hP⟩ d
  · next hP => exact (hf P d hP).symm

theorem kscAt_of (x2 : Vec Ideal S1x1536x128 .f32) (r : Fin 256) (f : ℕ → EReal) (hf : ∀ P, ¬P < 1536 → f P = 0)
    (h : ∀ (P : Fin 1536) l, x2 (ix3 0 P l) = f P.val) : kscAt x2 r = f := by
  funext P
  unfold kscAt
  split
  · next hP => exact h ⟨P, hP⟩ _
  · next hP => exact (hf P hP).symm

theorem valAt_of (x3 : Vec Ideal S1x128x1536 .fp8e4m3) (d : Fin 128) (f : ℕ → EReal) (hf : ∀ P, ¬P < 1536 → f P = 0)
    (h : ∀ P : Fin 1536, x3 (ix3 0 d P) = f P.val) : valAt x3 d = f := by
  funext P
  unfold valAt
  split
  · next hP => exact h ⟨P, hP⟩
  · next hP => exact (hf P hP).symm

theorem out5_of {x0 : Vec Ideal S1x256x128 .bf16} {x1 : Vec Ideal S1x1536x128 .fp8e4m3} {x2 : Vec Ideal S1x1536x128 .f32}
    {x3 : Vec Ideal S1x128x1536 .fp8e4m3} {vs vs' : EReal} {w w' : BitVec 32} (y : S1x256x128.Idx) {q' : Fin 128 → EReal}
    {kk' : ℕ → Fin 128 → EReal} {s2' vt' : ℕ → EReal}
    (h1 : qrow x0 (y 1) = q') (h2 : keyAt x1 = kk') (h3 : kscAt x2 (y 1) = s2') (h4 : valAt x3 (y 2) = vt') (h5 : vs = vs') (h6 : w = w') :
    out5 x0 x1 x2 x3 vs w y = kout q' kk' s2' vt' vs' w'.toInt := by
  subst h1 h2 h3 h4 h5 h6; rfl

theorem out6_of {x0 : Vec Ideal S1x256x128 .bf16} (y : S1x256x128.Idx) {q' : Fin 128 → EReal} (h1 : qrow x0 (y 1) = q') :
    out6 x0 y = kcode q' (y 2) := by subst h1; rfl

theorem out7_of {x0 : Vec Ideal S1x256x128 .bf16} (y : S1x1x256.Idx) {q' : Fin 128 → EReal} (h1 : qrow x0 (y 2) = q') :
    out7 x0 y = kscale (amax q') := by subst h1; rfl

variable (hO : Ok m) (c : Dev nD) (t : Fin (cfgM m hO).N)

theorem q_blk (r : Fin 256) : qrow (iblk m hO c 0 t) r
    = Rows.q (m ((c : Thread nD τ).loc main_arg0)) (gb (grid0.coords t)) (rowOf (gj (grid0.coords t)) r) := by
  funext d
  exact (iblk0 m hO c t r d).trans (host0 m c _ _ d)

theorem key_blk : keyAt (iblk m hO c 1 t) = Rows.key (m ((c : Thread nD τ).loc main_arg1)) (gb (grid0.coords t)) :=
  keyAt_of _ _ (fun P d h => dif_neg h) fun P d => (iblk1 m hO c t P d).trans (host1 m c _ P d)

theorem ksc_blk (r : Fin 256) : kscAt (iblk m hO c 2 t) r = Rows.ksc (m ((c : Thread nD τ).loc main_arg2)) (gb (grid0.coords t)) :=
  kscAt_of _ _ _ (fun P h => dif_neg h) fun P l => (iblk2 m hO c t P l).trans (host5 m c _ P l)

theorem val_blk (d : Fin 128) : valAt (iblk m hO c 3 t) d = Rows.val (m ((c : Thread nD τ).loc main_arg3)) (gb (grid0.coords t)) d :=
  valAt_of _ _ _ (fun P h => dif_neg h) fun P => (iblk3 m hO c t d P).trans (host7 m c _ P d)

theorem vs_blk : vsAt (iblk m hO c 4 t) (grid0.coords t) = m ((c : Thread nD τ).loc main_arg4) (ix2 (gb (grid0.coords t)) 0) :=
  (vsAt_at _ _).trans ((iblk4 m hO c t _).trans (host8 m c _))

theorem word_blk : word c (grid0.coords t) (tbl m 0) = m ((c : Thread nD τ).loc main_arg5) (ix1 (gb (grid0.coords t))) := by
  obtain rfl : c = 0 := Subsingleton.elim _ _
  exact (word_at _ _ _).trans (congrFun (V_main_arg5 m 0) _)

variable (hL : Lens m)

theorem flushed5_eq : (dats m hO hL 0 c).flushed 5 t = (((cfgM m hO).win 5).blk t).view.read (Elt Ideal) (G5 m c) := by
  show ((cfgM m hO).win 5).cut (grid0.coords t) ((dats m hO hL 0 c).after 5 t) = _
  rw [after0_5]
  refine funext fun (y : S1x256x128.Idx) => ?_
  refine Eq.trans ?_ (congrArg (G5 m c) (emb5 m hO t y)).symm
  show blk5 m hO c t y = _
  exact (out5_of y (q_blk m hO c t (y 1)) (key_blk m hO c t) (ksc_blk m hO c t (y 1)) (val_blk m hO c t (y 2)) (vs_blk m hO c t) (word_blk m hO c t))

theorem flushed6_eq : (dats m hO hL 0 c).flushed 6 t = (((cfgM m hO).win 6).blk t).view.read (Elt Ideal) (G6 m c) := by
  show ((cfgM m hO).win 6).cut (grid0.coords t) ((dats m hO hL 0 c).after 6 t) = _
  rw [after0_6]
  refine funext fun (y : S1x256x128.Idx) => ?_
  refine Eq.trans ?_ (congrArg (G6 m c) (emb6 m hO t y)).symm
  show blk6 m hO c t y = _
  exact (out6_of y (q_blk m hO c t (y 1)))

theorem flushed7_eq : (dats m hO hL 0 c).flushed 7 t = (((cfgM m hO).win 7).blk t).view.read (Elt Ideal) (G7 m c) := by
  show ((cfgM m hO).win 7).cut (grid0.coords t) ((dats m hO hL 0 c).after 7 t) = _
  rw [after0_7]
  refine funext fun (y : S1x1x256.Idx) => ?_
  refine Eq.trans ?_ (congrArg (G7 m c) (emb7 m hO t y)).symm
  show blk7 m hO c t y = _
  exact (out7_of y (q_blk m hO c t (y 2)))

/-- Every (batch, tile) is some point's. -/
theorem point (b : Fin 9) (j : Fin 128) : ∃ t : Fin grid0.N, gb (grid0.coords t) = b ∧ gj (grid0.coords t) = j := by
  obtain ⟨t, ht⟩ := Pipeline.Grid.coords_surjective grid0 (fun a => match a with | ⟨0, _⟩ => b | ⟨1, _⟩ => j)
  exact ⟨t, congrFun ht 0, congrFun ht 1⟩

/-- The tile of a row … -/
def tileOf (R : Fin 32768) : Fin 128 := ⟨R.val / 256, by omega⟩
/-- … and its place there. -/
def laneOf (R : Fin 32768) : Fin 256 := ⟨R.val % 256, by omega⟩

theorem row_split (R : Fin 32768) : rowOf (tileOf R) (laneOf R) = R := by
  apply Fin.ext
  show R.val / 256 * 256 + R.val % 256 = R.val
  omega

theorem cover5 (i : S9x32768x128.Idx) :
    ∃ t : Fin (cfgM m hO).N, ((cfgM m hO).win 5).flush t = true ∧ i ∈ (((cfgM m hO).win 5).blk t).view.set := by
  obtain ⟨t, hb, hj⟩ := point (i 0) (tileOf (i 1))
  refine ⟨t, flush0_5 _ t, ?_⟩
  have h := (((cfgM m hO).win 5).blk t).view.emb_mem_set (ix3 (0 : Fin 1) (laneOf (i 1)) (i 2 : Fin 128))
  have e := emb5 m hO t (ix3 (0 : Fin 1) (laneOf (i 1)) (i 2 : Fin 128))
  rw [hb, hj] at e
  have e2 : ix3 (i 0) (rowOf (tileOf (i 1)) (laneOf (i 1))) (i 2) = i := by
    rw [row_split (i 1)]; exact ix3_eta i
  exact (congrArg (· ∈ (((cfgM m hO).win 5).blk t).view.set) (e.trans e2)).mp h

theorem cover6 (i : S9x32768x128.Idx) :
    ∃ t : Fin (cfgM m hO).N, ((cfgM m hO).win 6).flush t = true ∧ i ∈ (((cfgM m hO).win 6).blk t).view.set := by
  obtain ⟨t, hb, hj⟩ := point (i 0) (tileOf (i 1))
  refine ⟨t, flush0_6 _ t, ?_⟩
  have h := (((cfgM m hO).win 6).blk t).view.emb_mem_set (ix3 (0 : Fin 1) (laneOf (i 1)) (i 2 : Fin 128))
  have e := emb6 m hO t (ix3 (0 : Fin 1) (laneOf (i 1)) (i 2 : Fin 128))
  rw [hb, hj] at e
  have e2 : ix3 (i 0) (rowOf (tileOf (i 1)) (laneOf (i 1))) (i 2) = i := by
    rw [row_split (i 1)]; exact ix3_eta i
  exact (congrArg (· ∈ (((cfgM m hO).win 6).blk t).view.set) (e.trans e2)).mp h

theorem cover7 (i : S9x1x32768.Idx) :
    ∃ t : Fin (cfgM m hO).N, ((cfgM m hO).win 7).flush t = true ∧ i ∈ (((cfgM m hO).win 7).blk t).view.set := by
  obtain ⟨t, hb, hj⟩ := point (i 0) (tileOf (i 2))
  refine ⟨t, flush0_7 _ t, ?_⟩
  have h := (((cfgM m hO).win 7).blk t).view.emb_mem_set (ix3 (0 : Fin 1) (i 1 : Fin 1) (laneOf (i 2)))
  have e := emb7 m hO t (ix3 (0 : Fin 1) (i 1 : Fin 1) (laneOf (i 2)))
  rw [hb, hj] at e
  have e2 : ix3 (i 0) (i 1) (rowOf (tileOf (i 2)) (laneOf (i 2))) = i := by
    rw [row_split (i 2)]; exact ix3_eta i
  exact (congrArg (· ∈ (((cfgM m hO).win 7).blk t).view.set) (e.trans e2)).mp h

/-- The run with its three results read: the attention, the codes and the scales; the arguments unchanged. -/
theorem run (hO : Ok m) (hL : Lens m) : θ_run defs (onTc (τ := τ) (main (F := Ideal))) ⟨m, fun _ => 0, ρ⟩ fun r => ∀ c : Dev nD,
      (r.2.mem ((c.tc : Thread nD τ).loc main_v9_0) = G5 m c
      ∧ r.2.mem ((c.tc : Thread nD τ).loc main_v9_1) = G6 m c
      ∧ r.2.mem ((c.tc : Thread nD τ).loc main_v9_2) = G7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨⟨((h.1 c).1 5).trans ((dats m hO hL 0 c).arrAt_eq_of_cover 5 (G5 m c) (fun t _ => flushed5_eq m hO c t hL) (cover5 m hO)),
      ((h.1 c).1 6).trans ((dats m hO hL 0 c).arrAt_eq_of_cover 6 (G6 m c) (fun t _ => flushed6_eq m hO c t hL) (cover6 m hO)),
      ((h.1 c).1 7).trans ((dats m hO hL 0 c).arrAt_eq_of_cover 7 (G7 m c) (fun t _ => flushed7_eq m hO c t hL) (cover7 m hO))⟩, h.2 c⟩)
    (θ_run_and (run_main m ρ hO hL) (unchanged m ρ hO hL))

end Cert.KernelIdeal.Gen

end
-- ==== Proof.Ref.Pay.lean ====
/-
  WHAT THE REFERENCE'S VECTOR EXPRESSIONS HOLD AT AN INDEX, over the extended reals, in the words of one row's attention
  (`Cert.Spec`).
-/
module

public import proofs.«01_k».proof.Proof.Gen.ReferenceIdeal.Skeleton
public import proofs.«01_k».proof.Proof.Spec
public import Idealize.ShloMosaic.Lib.Pointwise
public import Idealize.ShloMosaic.PureOps.Ideal.Laws

@[expose] public section

set_option maxRecDepth 16384

noncomputable section

namespace Cert.ReferenceIdeal.Gen

open Cert.ReferenceIdeal Idealize.ShloMosaic Idealize.ShloMosaic.TcCoe Idealize.ShloMosaic.Tactic
open Cert.Quant Cert.Spec

theorem ofBits_negInf : Ideal.ofBits .f32 0xFF800000#32 = (⊥ : EReal) := by
  show Ideal.ieee 8 23 0xFF800000#32 = _
  unfold Ideal.ieee
  simp

theorem ofBits_one : Ideal.ofBits .f32 0x3F800000#32 = (1 : EReal) := by
  rw [ofBits_fields _ 127 0 (by decide) (by norm_num) (by norm_num), if_neg (by norm_num)]
  norm_num

/-- A maximum folded from −∞ is the supremum. -/
theorem fold_max_eq_sup {ι : Type} (s : Finset ι) (f : ι → EReal) :
    Finset.fold max (Ideal.ofBits .f32 0xFF800000#32) f s = s.sup f := by
  rw [ofBits_negInf]; rfl

theorem named_inv448 : Named.named (F := Ideal) κ "inv448" (φ := .f32) 0x3B124925#32 = ((1 / 448 : ℝ) : EReal) := rfl
theorem named_ln2 : Named.named (F := Ideal) κ "ln2" (φ := .f32) 0x3F317218#32 = ((Real.log 2 : ℝ) : EReal) := rfl

/-! ## The query's exponents, scales and codes -/

/-- Row `R` of batch `b` of the query. -/
def qrow (x0 : Vec Ideal S9x32768x128 .bf16) (b : Fin 9) (R : Fin 32768) (d : Fin 128) : EReal := x0 (ix3 b R d)

/-- The largest magnitudes of the rows, -/
def vA (x0 : Vec Ideal S9x32768x128 .bf16) : FVec Ideal S9x32768 .f32 :=
  multiReduction .maximumf [2] S9x32768 (absf (k0_pay1 (F := Ideal) x0)) 0xFF800000#32 reduces_S9x32768x128_S9x32768 (.inl rfl) rfl

/-- the exponents as a function of them, -/
def vX (a : FVec Ideal S9x32768 .f32) : FVec Ideal S9x32768x1 .f32 :=
  select (cmpf .oeq (shapeCast S9x32768x1 a shapeCasts_S9x32768_S9x32768x1 : FVec Ideal S9x32768x1 .f32) (broadcast S9x32768x1 (Scalar.ofBits .f32 0x00000000#32)))
    (broadcast S9x32768x1 (Scalar.ofBits .f32 0x00000000#32))
    (addf (floor (divf (log (mulf (shapeCast S9x32768x1 a shapeCasts_S9x32768_S9x32768x1 : FVec Ideal S9x32768x1 .f32)
      (broadcast S9x32768x1 (Named.named (F := Ideal) κ "inv448" (φ := .f32) 0x3B124925#32))))
      (broadcast S9x32768x1 (Named.named (F := Ideal) κ "ln2" (φ := .f32) 0x3F317218#32))))
      (broadcast S9x32768x1 (Scalar.ofBits .f32 0x3F800000#32)))

/-- and the codes as a function of the query and the exponents. -/
def vC (q : FVec Ideal S9x32768x128 .f32) (e : FVec Ideal S9x32768x1 .f32) : FVec Ideal S9x32768x128 .fp8e4m3 :=
  truncf .fp8e4m3 (minimumf (broadcast S9x32768x128 (Scalar.ofBits .f32 0x43E00000#32)) (maximumf (broadcast S9x32768x128 (Scalar.ofBits .f32 0xC3E00000#32))
    (mulf q (broadcastTo S9x32768x128 (exp2 (subf (broadcast S9x32768x1 (Scalar.ofBits .f32 0x00000000#32)) e)) broadcasts_S9x32768x1_S9x32768x128)))) bitsLt_fp8e4m3_f32

theorem pay2_eq (x0 : Vec Ideal S9x32768x128 .bf16) : k0_pay2 (F := Ideal) x0 = vX (vA x0) := rfl
theorem pay3_eq (x0 : Vec Ideal S9x32768x128 .bf16) : k0_pay3 (F := Ideal) x0 = exp2 (k0_pay2 (F := Ideal) x0) := rfl
theorem pay4_eq (x0 : Vec Ideal S9x32768x128 .bf16) : k0_pay4 (F := Ideal) x0 = vC (k0_pay1 (F := Ideal) x0) (k0_pay2 (F := Ideal) x0) := rfl

theorem pay1_apply (x0 : Vec Ideal S9x32768x128 .bf16) (b : Fin 9) (R : Fin 32768) (d : Fin 128) :
    k0_pay1 (F := Ideal) x0 (ix3 b R d) = qrow x0 b R d := by
  pointwise [k0_pay1]
  rfl

theorem vRow_apply (q : FVec Ideal S9x32768x128 .f32) (b : Fin 9) (R : Fin 32768) :
    (multiReduction .maximumf [2] S9x32768 (absf q) 0xFF800000#32 reduces_S9x32768x128_S9x32768 (.inl rfl) rfl : FVec Ideal S9x32768 .f32) (ix2 b R)
      = Finset.univ.sup fun d : Fin 128 => max (q (ix3 b R d)) (-(q (ix3 b R d))) := by
  pointwise []
  rw [fold_max_eq_sup]
  rfl

theorem vA_apply (x0 : Vec Ideal S9x32768x128 .bf16) (b : Fin 9) (R : Fin 32768) : vA x0 (ix2 b R) = amax (qrow x0 b R) := by
  unfold vA amax
  rw [vRow_apply]
  simp only [pay1_apply]

theorem select_oeq (a x : EReal) :
    (if a = 0 then 0 else x) = Scalar.select (FloatOps.cmpf (F := Ideal) (φ := .f32) .oeq a 0) 0 x := by
  show _ = Scalar.select (BitVec.ofBool (decide (a = 0))) 0 x
  by_cases h : a = 0
  · rw [if_pos h, decide_eq_true h]; rfl
  · rw [if_neg h, decide_eq_false h]; rfl

theorem vX_apply (a : FVec Ideal S9x32768 .f32) (b : Fin 9) (R : Fin 32768) : vX a (ix3 b R 0) = rexp (a (ix2 b R)) := by
  pointwise [vX]
  unfold rexp
  generalize (a (ix2 b R) : EReal) = x
  rw [named_inv448, named_ln2]
  exact select_oeq _ _

theorem pay2_apply (x0 : Vec Ideal S9x32768x128 .bf16) (b : Fin 9) (R : Fin 32768) :
    k0_pay2 (F := Ideal) x0 (ix3 b R 0) = rexp (amax (qrow x0 b R)) := by
  rw [pay2_eq, vX_apply, vA_apply]

theorem exp2_at {s : Shape} (e : FVec Ideal s .f32) (i : s.Idx) : exp2 e i = Ideal.exp2 (e i) := rfl

theorem pay3_apply (x0 : Vec Ideal S9x32768x128 .bf16) (b : Fin 9) (R : Fin 32768) :
    k0_pay3 (F := Ideal) x0 (ix3 b R 0) = rscale (qrow x0 b R) := by
  unfold rscale
  rw [pay3_eq, exp2_at, pay2_apply]

theorem vC_apply (q : FVec Ideal S9x32768x128 .f32) (e : FVec Ideal S9x32768x1 .f32) (b : Fin 9) (R : Fin 32768) (d : Fin 128) :
    vC q e (ix3 b R d) = clip (q (ix3 b R d) * Ideal.exp2 (0 - e (ix3 b R 0))) := by
  unfold clip
  pointwise [vC]
  rfl

theorem pay4_apply (x0 : Vec Ideal S9x32768x128 .bf16) (b : Fin 9) (R : Fin 32768) (d : Fin 128) :
    k0_pay4 (F := Ideal) x0 (ix3 b R d) = rcode (qrow x0 b R) d := by
  unfold rcode
  rw [pay4_eq, vC_apply, pay1_apply, pay2_apply]

theorem pay8_apply (v : FVec Ideal S9x32768x1 .f32) (b : Fin 9) (R : Fin 32768) :
    k0_pay8 (F := Ideal) v (ix3 b 0 R) = v (ix3 b R 0) := by
  pointwise [k0_pay8]

/-! ## The scores -/

theorem vZ_apply (c : FVec Ideal S9x32768x128 .fp8e4m3) (kk : FVec Ideal S9x1536x128 .fp8e4m3) (b : Fin 9) (R : Fin 32768) (P : Fin 1536) :
    matmul dot_S9x32768x128_S9x1536x128_S9x32768x1536_2_2_1_1_0_0 none c (shapeCast S9x1536x128 kk shapeCasts_S9x1536x128_S9x1536x128 : FVec Ideal S9x1536x128 .fp8e4m3)
      (constant (F := Ideal) S9x32768x1536 .f32 0x00000000#32) (ix3 b R P) = ∑ d, c (ix3 b R d) * kk (ix3 b P d) := by
  pointwise []

theorem pay5_eq (x0 : Vec Ideal S9x32768x128 .bf16) (kk : Vec Ideal S9x1536x128 .fp8e4m3) :
    k0_pay5 (F := Ideal) x0 kk = matmul dot_S9x32768x128_S9x1536x128_S9x32768x1536_2_2_1_1_0_0 none (k0_pay4 (F := Ideal) x0)
      (shapeCast S9x1536x128 kk shapeCasts_S9x1536x128_S9x1536x128 : FVec Ideal S9x1536x128 .fp8e4m3)
      (constant (F := Ideal) S9x32768x1536 .f32 0x00000000#32) := rfl

theorem pay5_apply (x0 : Vec Ideal S9x32768x128 .bf16) (kk : Vec Ideal S9x1536x128 .fp8e4m3) (b : Fin 9) (R : Fin 32768) (P : Fin 1536) :
    k0_pay5 (F := Ideal) x0 kk (ix3 b R P) = ∑ d, rcode (qrow x0 b R) d * kk (ix3 b P d) := by
  rw [pay5_eq, vZ_apply]
  simp only [pay4_apply]

theorem cmpi_lt (P : Fin 1536) (w : BitVec 32) :
    IntOp.cmpi .slt (BitVec.ofNat 32 P.val) w = BitVec.ofBool (decide ((P.val : ℤ) < w.toInt)) := by
  have h : (BitVec.ofNat 32 P.val).toInt = (P.val : ℤ) := by
    have := P.isLt
    have e : (BitVec.ofNat 32 P.val).toNat = P.val := by rw [BitVec.toNat_ofNat]; omega
    rw [BitVec.toInt_eq_toNat_cond, e, if_pos (by omega)]
  show BitVec.ofBool ((BitVec.ofNat 32 P.val).slt w) = _
  rw [BitVec.slt, h]

theorem pay6_apply (v : Vec Ideal S9x1x1 .i32) (b : Fin 9) (R : Fin 32768) (P : Fin 1536) :
    k0_pay6 (F := Ideal) v (ix3 b R P) = BitVec.ofBool (decide ((P.val : ℤ) < BitVec.toInt (n := 32) (v (ix3 b 0 0)))) := by
  pointwise [k0_pay6]
  exact cmpi_lt P _

/-- The masked scores, -/
def vS (v18 : FVec Ideal S9x32768x1 .f32) (v31 : FVec Ideal S9x32768x1536 .f32) (v36 : IVec S9x32768x1536 1) (v37 : Vec Ideal S9x1x1536 .f32) :
    FVec Ideal S9x32768x1536 .f32 :=
  select v36 (mulf (mulf v31 (broadcastTo S9x32768x1536 v18 broadcasts_S9x32768x1_S9x32768x1536))
    (broadcastTo S9x32768x1536 (mulf v37 (broadcast S9x1x1536 (Scalar.ofBits .f32 0x3DB504F3#32) : FVec Ideal S9x1x1536 .f32)) broadcasts_S9x1x1536_S9x32768x1536))
    (broadcast S9x32768x1536 (Scalar.ofBits .f32 0xFF800000#32))

/-- their exponentials, the row's maximum subtracted, -/
def vE (s : FVec Ideal S9x32768x1536 .f32) : FVec Ideal S9x32768x1536 .f32 :=
  exp (subf s (broadcastTo S9x32768x1536 (shapeCast S9x32768x1 (multiReduction .maximumf [2] S9x32768 s 0xFF800000#32 reduces_S9x32768x1536_S9x32768 (.inl rfl) rfl : FVec Ideal S9x32768 .f32)
    shapeCasts_S9x32768_S9x32768x1) broadcasts_S9x32768x1_S9x32768x1536))

/-- the row's sum of them, -/
def vL (e : FVec Ideal S9x32768x1536 .f32) : FVec Ideal S9x32768x1 .f32 :=
  shapeCast S9x32768x1 (multiReduction .add [2] S9x32768 e 0x00000000#32 reduces_S9x32768x1536_S9x32768 (.inl rfl) rfl : FVec Ideal S9x32768 .f32) shapeCasts_S9x32768_S9x32768x1

/-- the probabilities, -/
def vP (e : FVec Ideal S9x32768x1536 .f32) : FVec Ideal S9x32768x1536 .fp8e4m3 :=
  truncf .fp8e4m3 (minimumf (broadcast S9x32768x1536 (Scalar.ofBits .f32 0x43E00000#32)) (maximumf (broadcast S9x32768x1536 (Scalar.ofBits .f32 0x00000000#32))
    (mulf e (broadcast S9x32768x1536 (Scalar.ofBits .f32 0x43800000#32))))) bitsLt_fp8e4m3_f32

/-- and the result. -/
def vO (p : FVec Ideal S9x32768x1536 .fp8e4m3) (l : FVec Ideal S9x32768x1 .f32) (v60 : Vec Ideal S9x1536x128 .fp8e4m3) (v63 : Vec Ideal S9x1x1 .f32) :
    FVec Ideal S9x32768x128 .bf16 :=
  truncf .bf16 (mulf (matmul dot_S9x32768x1536_S9x1536x128_S9x32768x128_2_1_1_2_0_0 none p (shapeCast S9x1536x128 v60 shapeCasts_S9x1536x128_S9x1536x128 : FVec Ideal S9x1536x128 .fp8e4m3) (constant S9x32768x128 .f32 0x00000000#32))
    (broadcastTo S9x32768x128 (divf (broadcastTo S9x32768x1 (mulf (broadcast S9x1x1 (Scalar.ofBits .f32 0x3B800000#32)) (shapeCast S9x1x1 v63 shapeCasts_S9x1x1_S9x1x1 : FVec Ideal S9x1x1 .f32)) broadcasts_S9x1x1_S9x32768x1) l)
      broadcasts_S9x32768x1_S9x32768x128)) bitsLt_bf16_f32

theorem pay7_eq (v18 : FVec Ideal S9x32768x1 .f32) (v31 : FVec Ideal S9x32768x1536 .f32) (v36 : IVec S9x32768x1536 1) (v37 : Vec Ideal S9x1x1536 .f32)
    (v60 : Vec Ideal S9x1536x128 .fp8e4m3) (v63 : Vec Ideal S9x1x1 .f32) :
    k0_pay7 (F := Ideal) v18 v31 v36 v37 v60 v63 = vO (vP (vE (vS v18 v31 v36 v37))) (vL (vE (vS v18 v31 v36 v37))) v60 v63 := rfl

theorem vS_apply (v18 : FVec Ideal S9x32768x1 .f32) (v31 : FVec Ideal S9x32768x1536 .f32) (v36 : IVec S9x32768x1536 1) (v37 : Vec Ideal S9x1x1536 .f32)
    (b : Fin 9) (R : Fin 32768) (P : Fin 1536) :
    vS v18 v31 v36 v37 (ix3 b R P) = Scalar.select (v36 (ix3 b R P)) ((v31 (ix3 b R P) * v18 (ix3 b R 0)) * (v37 (ix3 b 0 P) * Ideal.ofBits .f32 0x3DB504F3#32)) ⊥ := by
  rw [← ofBits_negInf]
  pointwise [vS]

theorem vE_apply (s : FVec Ideal S9x32768x1536 .f32) (b : Fin 9) (R : Fin 32768) (P : Fin 1536) :
    vE s (ix3 b R P) = Ideal.exp (s (ix3 b R P) - Finset.univ.sup fun P' : Fin 1536 => s (ix3 b R P')) := by
  rw [← fold_max_eq_sup]
  pointwise [vE]

theorem vL_apply (e : FVec Ideal S9x32768x1536 .f32) (b : Fin 9) (R : Fin 32768) :
    vL e (ix3 b R 0) = ∑ P : Fin 1536, e (ix3 b R P) := by
  pointwise [vL]

theorem vP_apply (e : FVec Ideal S9x32768x1536 .f32) (b : Fin 9) (R : Fin 32768) (P : Fin 1536) :
    vP e (ix3 b R P) = clip0 (e (ix3 b R P) * Ideal.ofBits .f32 0x43800000#32) := by
  unfold clip0
  pointwise [vP]

theorem vO_apply (p : FVec Ideal S9x32768x1536 .fp8e4m3) (l : FVec Ideal S9x32768x1 .f32) (v60 : Vec Ideal S9x1536x128 .fp8e4m3) (v63 : Vec Ideal S9x1x1 .f32)
    (b : Fin 9) (R : Fin 32768) (d : Fin 128) :
    vO p l v60 v63 (ix3 b R d) = (∑ P : Fin 1536, p (ix3 b R P) * v60 (ix3 b P d)) * Ideal.div (Ideal.ofBits .f32 0x3B800000#32 * v63 (ix3 b 0 0)) (l (ix3 b R 0)) := by
  pointwise [vO]

end Cert.ReferenceIdeal.Gen

end
-- ==== Proof.Ref.Value.lean ====
/-
  THE REFERENCE'S THREE RESULTS as functions of its arguments: every element of the attention, of the codes and of the
  scales. The call has no grid, so every window is its whole array.
-/
module

public import proofs.«01_k».proof.Proof.Gen.ReferenceIdeal.Value
public import proofs.«01_k».proof.Proof.Ref.Pay
public import proofs.«01_k».proof.Proof.Rows
public import Idealize.ShloMosaic.Lib.Pipeline.Covers
public import Idealize.ShloMosaic.Lib.StableHlo.ReadAt

@[expose] public section

set_option maxRecDepth 16384

noncomputable section

namespace Cert.ReferenceIdeal.Gen

open Cert.ReferenceIdeal Idealize.ShloMosaic Idealize.ShloMosaic.TcCoe Idealize.ShloMosaic.Tactic Idealize.SL Idealize.SL.Sem
open Cert.Quant Cert.Spec

/-! ## The body's stores at an index -/

theorem zero3 : (![0, 0, 0] : Fin 3 → ℕ) = fun _ => 0 := by funext a; fin_cases a <;> rfl

theorem out6_eq (x0 : Vec Ideal S9x32768x128 .bf16) (x1 : Vec Ideal S9x1536x128 .fp8e4m3) (x2 : Vec Ideal S9x1x1536 .f32)
    (x3 : Vec Ideal S9x1536x128 .fp8e4m3) (x4 : Vec Ideal S9x1x1 .f32) (x5 : Vec Ideal S9x1x1 .i32) :
    out0_6 x0 x1 x2 x3 x4 x5 = k0_pay7 (k0_pay3 x0) (k0_pay5 x0 x1) (k0_pay6 x5) x2 x3 x4 := by
  unfold out0_6 k0_pay9
  rw [View.canon_unit_zero (S := S9x32768x128) zero3, View.ld_unit_zero (S := S9x32768x128) zero3,
    View.ld_unit_zero (S := S9x1536x128) zero3, View.ld_unit_zero (S := S9x1536x128) zero3, View.ld_unit_zero (S := S9x1x1) zero3,
    View.ld_unit_zero (S := S9x1x1) zero3, View.ld_unit_zero (S := S9x1x1536) zero3]

theorem out7_eq (x0 : Vec Ideal S9x32768x128 .bf16) (x1 : Vec Ideal S9x1536x128 .fp8e4m3) (x2 : Vec Ideal S9x1x1536 .f32)
    (x3 : Vec Ideal S9x1536x128 .fp8e4m3) (x4 : Vec Ideal S9x1x1 .f32) (x5 : Vec Ideal S9x1x1 .i32) :
    out0_7 x0 x1 x2 x3 x4 x5 = k0_pay4 x0 := by
  unfold out0_7
  rw [View.canon_unit_zero (S := S9x32768x128) zero3, View.ld_unit_zero (S := S9x32768x128) zero3]

theorem out8_eq (x0 : Vec Ideal S9x32768x128 .bf16) (x1 : Vec Ideal S9x1536x128 .fp8e4m3) (x2 : Vec Ideal S9x1x1536 .f32)
    (x3 : Vec Ideal S9x1536x128 .fp8e4m3) (x4 : Vec Ideal S9x1x1 .f32) (x5 : Vec Ideal S9x1x1 .i32) :
    out0_8 x0 x1 x2 x3 x4 x5 = k0_pay8 (k0_pay3 x0) := by
  unfold out0_8 k0_pay9
  rw [View.canon_unit_zero (S := S9x1x32768) zero3, View.ld_unit_zero (S := S9x32768x128) zero3]

theorem select_ofBool (p : Prop) [Decidable p] (x y : EReal) : Scalar.select (BitVec.ofBool (decide p)) x y = if p then x else y := by
  by_cases h : p
  · rw [decide_eq_true h, if_pos h]; rfl
  · rw [decide_eq_false h, if_neg h]; rfl

/-- The largest of the first `n` values. -/
theorem sup_univ_range (n : ℕ) (f : ℕ → EReal) : (Finset.univ.sup fun P : Fin n => f P.val) = (Finset.range n).sup f := by
  apply le_antisymm
  · exact Finset.sup_le fun P _ => Finset.le_sup (f := f) (Finset.mem_range.mpr P.isLt)
  · exact Finset.sup_le fun P h => Finset.le_sup (f := fun P : Fin n => f P.val) (Finset.mem_univ ⟨P, Finset.mem_range.mp h⟩)

section Row

variable {q : Fin 128 → EReal} {kk : ℕ → Fin 128 → EReal} {s2 vt : ℕ → EReal} {vs : EReal} {w : ℤ}
variable {v18 : FVec Ideal S9x32768x1 .f32} {v31 : FVec Ideal S9x32768x1536 .f32} {v36 : IVec S9x32768x1536 1} {v37 : Vec Ideal S9x1x1536 .f32}
variable {v60 : Vec Ideal S9x1536x128 .fp8e4m3} {v63 : Vec Ideal S9x1x1 .f32} {b : Fin 9} {R : Fin 32768}

theorem s_of (h18 : v18 (ix3 b R 0) = rscale q) (h31 : ∀ P : Fin 1536, v31 (ix3 b R P) = ∑ d, rcode q d * kk P.val d)
    (h36 : ∀ P : Fin 1536, v36 (ix3 b R P) = BitVec.ofBool (decide ((P.val : ℤ) < w)))
    (h37 : ∀ P : Fin 1536, v37 (ix3 b 0 P) * Ideal.ofBits .f32 0x3DB504F3#32 = s2 P.val) (P : Fin 1536) :
    vS v18 v31 v36 v37 (ix3 b R P) = rs q kk s2 w P.val := by
  rw [vS_apply, h18, h31, h36, h37, select_ofBool]
  rfl

variable {s : FVec Ideal S9x32768x1536 .f32}

theorem e_of (hs : ∀ P : Fin 1536, s (ix3 b R P) = rs q kk s2 w P.val) (P : Fin 1536) : vE s (ix3 b R P) = re q kk s2 w P.val := by
  rw [vE_apply]
  simp only [hs]
  rw [sup_univ_range 1536 (rs q kk s2 w)]
  rfl

theorem o_of (hs : ∀ P : Fin 1536, s (ix3 b R P) = rs q kk s2 w P.val) (d : Fin 128) (h60 : ∀ P : Fin 1536, v60 (ix3 b P d) = vt P.val)
    (h63 : v63 (ix3 b 0 0) = vs) : vO (vP (vE s)) (vL (vE s)) v60 v63 (ix3 b R d) = rout q kk s2 vt vs w := by
  rw [vO_apply, vL_apply]
  simp only [vP_apply, e_of hs, h60, h63]
  unfold rout racc rl
  rw [Finset.sum_range, Finset.sum_range]

end Row

theorem out6_of {x0 : Vec Ideal S9x32768x128 .bf16} {x1 : Vec Ideal S9x1536x128 .fp8e4m3} {x2 : Vec Ideal S9x1x1536 .f32}
    {x3 : Vec Ideal S9x1536x128 .fp8e4m3} {x4 : Vec Ideal S9x1x1 .f32} {x5 : Vec Ideal S9x1x1 .i32}
    {q : Fin 128 → EReal} {kk : ℕ → Fin 128 → EReal} {s2 vt : ℕ → EReal} {vs : EReal} {w : BitVec 32} (b : Fin 9) (R : Fin 32768) (d : Fin 128)
    (h0 : qrow x0 b R = q) (h1 : ∀ (P : Fin 1536) d, x1 (ix3 b P d) = kk P.val d)
    (h2 : ∀ P : Fin 1536, x2 (ix3 b 0 P) * Ideal.ofBits .f32 0x3DB504F3#32 = s2 P.val)
    (h3 : ∀ P : Fin 1536, x3 (ix3 b P d) = vt P.val) (h4 : x4 (ix3 b 0 0) = vs) (h5 : x5 (ix3 b 0 0) = w) :
    out0_6 x0 x1 x2 x3 x4 x5 (ix3 b R d) = rout q kk s2 vt vs w.toInt := by
  rw [out6_eq, pay7_eq]
  refine o_of (fun P => s_of ?_ (fun P => ?_) (fun P => ?_) h2 P) d h3 h4
  · rw [pay3_apply, h0]
  · rw [pay5_apply, h0]; simp only [h1]
  · rw [pay6_apply, h5]

theorem out7_of {x0 : Vec Ideal S9x32768x128 .bf16} {x1 : Vec Ideal S9x1536x128 .fp8e4m3} {x2 : Vec Ideal S9x1x1536 .f32}
    {x3 : Vec Ideal S9x1536x128 .fp8e4m3} {x4 : Vec Ideal S9x1x1 .f32} {x5 : Vec Ideal S9x1x1 .i32}
    {q : Fin 128 → EReal} (b : Fin 9) (R : Fin 32768) (d : Fin 128) (h0 : qrow x0 b R = q) :
    out0_7 x0 x1 x2 x3 x4 x5 (ix3 b R d) = rcode q d := by
  rw [out7_eq, pay4_apply, h0]

theorem out8_of {x0 : Vec Ideal S9x32768x128 .bf16} {x1 : Vec Ideal S9x1536x128 .fp8e4m3} {x2 : Vec Ideal S9x1x1536 .f32}
    {x3 : Vec Ideal S9x1536x128 .fp8e4m3} {x4 : Vec Ideal S9x1x1 .f32} {x5 : Vec Ideal S9x1x1 .i32}
    {q : Fin 128 → EReal} (b : Fin 9) (R : Fin 32768) (h0 : qrow x0 b R = q) :
    out0_8 x0 x1 x2 x3 x4 x5 (ix3 b 0 R) = rscale q := by
  rw [out8_eq, pay8_apply, pay3_apply, h0]

/-! ## The windows are the arrays -/

theorem whole_val (n k : ℕ) : 0 * n + k = k := by rw [Nat.zero_mul, Nat.zero_add]

theorem emb0 (t : Fin cfg0.N) (y : S9x32768x128.Idx) : (((cfg0.win 0).rect t).emb y : S9x32768x128.Idx) = y := by
  funext a
  apply Fin.ext
  refine (Pipeline.Window.rect_emb_val (cfg0.win 0) t y a rfl).trans ?_
  exact whole_val _ _

theorem emb1 (t : Fin cfg0.N) (y : S9x1536x128.Idx) : (((cfg0.win 1).rect t).emb y : S9x1536x128.Idx) = y := by
  funext a
  apply Fin.ext
  refine (Pipeline.Window.rect_emb_val (cfg0.win 1) t y a rfl).trans ?_
  exact whole_val _ _

theorem emb2 (t : Fin cfg0.N) (y : S9x1x1536.Idx) : (((cfg0.win 2).rect t).emb y : S9x1x1536.Idx) = y := by
  funext a
  apply Fin.ext
  refine (Pipeline.Window.rect_emb_val (cfg0.win 2) t y a rfl).trans ?_
  exact whole_val _ _

theorem emb3 (t : Fin cfg0.N) (y : S9x1536x128.Idx) : (((cfg0.win 3).rect t).emb y : S9x1536x128.Idx) = y := by
  funext a
  apply Fin.ext
  refine (Pipeline.Window.rect_emb_val (cfg0.win 3) t y a rfl).trans ?_
  exact whole_val _ _

theorem emb4 (t : Fin cfg0.N) (y : S9x1x1.Idx) : (((cfg0.win 4).rect t).emb y : S9x1x1.Idx) = y := by
  funext a
  apply Fin.ext
  refine (Pipeline.Window.rect_emb_val (cfg0.win 4) t y a rfl).trans ?_
  exact whole_val _ _

theorem emb5 (t : Fin cfg0.N) (y : S9x1x1.Idx) : (((cfg0.win 5).rect t).emb y : S9x1x1.Idx) = y := by
  funext a
  apply Fin.ext
  refine (Pipeline.Window.rect_emb_val (cfg0.win 5) t y a rfl).trans ?_
  exact whole_val _ _

theorem emb6 (t : Fin cfg0.N) (y : S9x32768x128.Idx) : (((cfg0.win 6).rect t).emb y : S9x32768x128.Idx) = y := by
  funext a
  apply Fin.ext
  refine (Pipeline.Window.rect_emb_val (cfg0.win 6) t y a rfl).trans ?_
  exact whole_val _ _

theorem emb7 (t : Fin cfg0.N) (y : S9x32768x128.Idx) : (((cfg0.win 7).rect t).emb y : S9x32768x128.Idx) = y := by
  funext a
  apply Fin.ext
  refine (Pipeline.Window.rect_emb_val (cfg0.win 7) t y a rfl).trans ?_
  exact whole_val _ _

theorem emb8 (t : Fin cfg0.N) (y : S9x1x32768.Idx) : (((cfg0.win 8).rect t).emb y : S9x1x32768.Idx) = y := by
  funext a
  apply Fin.ext
  refine (Pipeline.Window.rect_emb_val (cfg0.win 8) t y a rfl).trans ?_
  exact whole_val _ _

variable (m : (ℓ : Loc nD τ sig) → Buf (Elt Ideal) ℓ) (ρ : Dev nD → PrngReg)

section Blocks

variable (c : Dev nD) (t : Fin cfg0.N)

theorem q_blk (b : Fin 9) (R : Fin 32768) : qrow (iblk m c 0 t) b R = Rows.q (m ((c : Thread nD τ).loc main_arg0)) b R := by
  funext d
  refine (congrArg (V m c main_v0) (emb0 t (ix3 b R d))).trans ?_
  unfold V Rows.q
  after_reads_at

theorem key_blk (b : Fin 9) (P : Fin 1536) (d : Fin 128) :
    iblk m c 1 t (ix3 b P d) = Rows.key (m ((c : Thread nD τ).loc main_arg1)) b P.val d := by
  refine (congrArg (V m c main_v1) (emb1 t (ix3 b P d))).trans ?_
  unfold V Rows.key
  rw [dif_pos P.isLt]
  after_reads_at

theorem ksc_blk (b : Fin 9) (P : Fin 1536) :
    (show EReal from iblk m c 2 t (ix3 b 0 P)) * Ideal.ofBits .f32 0x3DB504F3#32 = Rows.ksc (m ((c : Thread nD τ).loc main_arg2)) b P.val := by
  have h : iblk m c 2 t (ix3 b 0 P) = m ((c : Thread nD τ).loc main_arg2) (ix3 b 0 P) :=
    (congrArg (V m c main_arg2) (emb2 t (ix3 b 0 P))).trans (congrFun (V_main_arg2 m c) _)
  unfold Rows.ksc
  rw [dif_pos P.isLt]
  exact congrArg (fun z : EReal => z * Ideal.ofBits .f32 0x3DB504F3#32) h

theorem val_blk (b : Fin 9) (P : Fin 1536) (d : Fin 128) :
    iblk m c 3 t (ix3 b P d) = Rows.val (m ((c : Thread nD τ).loc main_arg3)) b d P.val := by
  refine (congrArg (V m c main_v2) (emb3 t (ix3 b P d))).trans ?_
  unfold V Rows.val
  rw [dif_pos P.isLt]
  after_reads_at

theorem vs_blk (b : Fin 9) : iblk m c 4 t (ix3 b 0 0) = m ((c : Thread nD τ).loc main_arg4) (ix2 b 0) := by
  refine (congrArg (V m c main_v3) (emb4 t (ix3 b 0 0))).trans ?_
  unfold V
  after_reads_at

theorem word_blk (b : Fin 9) : iblk m c 5 t (ix3 b 0 0) = m ((c : Thread nD τ).loc main_arg5) (ix1 b) := by
  refine (congrArg (V m c main_v4) (emb5 t (ix3 b 0 0))).trans ?_
  unfold V
  after_reads_at

end Blocks

/-! ## The results -/

/-- The attention … -/
def G6 (c : Dev nD) : Vec Ideal S9x32768x128 .bf16 := fun y =>
  rout (Rows.q (m ((c : Thread nD τ).loc main_arg0)) (y 0) (y 1)) (Rows.key (m ((c : Thread nD τ).loc main_arg1)) (y 0))
    (Rows.ksc (m ((c : Thread nD τ).loc main_arg2)) (y 0)) (Rows.val (m ((c : Thread nD τ).loc main_arg3)) (y 0) (y 2))
    (m ((c : Thread nD τ).loc main_arg4) (ix2 (y 0) 0)) (BitVec.toInt (n := 32) (m ((c : Thread nD τ).loc main_arg5) (ix1 (y 0))))

/-- … the codes … -/
def G7 (c : Dev nD) : Vec Ideal S9x32768x128 .fp8e4m3 := fun y =>
  rcode (Rows.q (m ((c : Thread nD τ).loc main_arg0)) (y 0) (y 1)) (y 2)

/-- … and the scales. -/
def G8 (c : Dev nD) : Vec Ideal S9x1x32768 .f32 := fun y =>
  rscale (Rows.q (m ((c : Thread nD τ).loc main_arg0)) (y 0) (y 2))

variable (c : Dev nD) (t : Fin cfg0.N)

theorem flushed6_eq : (dats m 0 c).flushed 6 t = ((cfg0.win 6).blk t).view.read (Elt Ideal) (G6 m c) := by
  rw [Value.flushed6]
  refine funext fun (y : S9x32768x128.Idx) => ?_
  refine Eq.trans ?_ (congrArg (G6 m c) (emb6 t y)).symm
  obtain ⟨b, R, d, rfl⟩ : ∃ (b : Fin 9) (R : Fin 32768) (d : Fin 128), y = ix3 b R d := ⟨_, _, _, (ix3_eta y).symm⟩
  exact out6_of b R d (q_blk m c t b R) (key_blk m c t b) (ksc_blk m c t b) (fun P => val_blk m c t b P d) (vs_blk m c t b) (word_blk m c t b)

theorem flushed7_eq : (dats m 0 c).flushed 7 t = ((cfg0.win 7).blk t).view.read (Elt Ideal) (G7 m c) := by
  rw [Value.flushed7]
  refine funext fun (y : S9x32768x128.Idx) => ?_
  refine Eq.trans ?_ (congrArg (G7 m c) (emb7 t y)).symm
  obtain ⟨b, R, d, rfl⟩ : ∃ (b : Fin 9) (R : Fin 32768) (d : Fin 128), y = ix3 b R d := ⟨_, _, _, (ix3_eta y).symm⟩
  exact out7_of b R d (q_blk m c t b R)

theorem flushed8_eq : (dats m 0 c).flushed 8 t = ((cfg0.win 8).blk t).view.read (Elt Ideal) (G8 m c) := by
  rw [Value.flushed8]
  refine funext fun (y : S9x1x32768.Idx) => ?_
  refine Eq.trans ?_ (congrArg (G8 m c) (emb8 t y)).symm
  obtain ⟨b, z, R, rfl⟩ : ∃ (b : Fin 9) (z : Fin 1) (R : Fin 32768), y = ix3 b z R := ⟨_, _, _, (ix3_eta y).symm⟩
  obtain rfl : z = 0 := Subsingleton.elim _ _
  exact out8_of b R (q_blk m c t b R)

/-- The call's one point. -/
def t0 : Fin cfg0.N := ⟨0, by decide⟩

theorem cover6 (i : S9x32768x128.Idx) : ∃ t : Fin cfg0.N, (cfg0.win 6).flush t = true ∧ i ∈ ((cfg0.win 6).blk t).view.set :=
  ⟨t0, flush0_6 t0, (congrArg (· ∈ ((cfg0.win 6).blk t0).view.set) (emb6 t0 i)).mp (((cfg0.win 6).blk t0).view.emb_mem_set i)⟩

theorem cover7 (i : S9x32768x128.Idx) : ∃ t : Fin cfg0.N, (cfg0.win 7).flush t = true ∧ i ∈ ((cfg0.win 7).blk t).view.set :=
  ⟨t0, flush0_7 t0, (congrArg (· ∈ ((cfg0.win 7).blk t0).view.set) (emb7 t0 i)).mp (((cfg0.win 7).blk t0).view.emb_mem_set i)⟩

theorem cover8 (i : S9x1x32768.Idx) : ∃ t : Fin cfg0.N, (cfg0.win 8).flush t = true ∧ i ∈ ((cfg0.win 8).blk t).view.set :=
  ⟨t0, flush0_8 t0, (congrArg (· ∈ ((cfg0.win 8).blk t0).view.set) (emb8 t0 i)).mp (((cfg0.win 8).blk t0).view.emb_mem_set i)⟩

/-- The run with its three results read: the attention, the codes and the scales; the arguments unchanged. -/
theorem run : θ_run defs (onTc (τ := τ) (main (F := Ideal))) ⟨m, fun _ => 0, ρ⟩ fun r => ∀ c : Dev nD,
      r.2.mem ((c.tc : Thread nD τ).loc main_v5_0) = G6 m c
      ∧ r.2.mem ((c.tc : Thread nD τ).loc main_v5_1) = G7 m c
      ∧ r.2.mem ((c.tc : Thread nD τ).loc main_v5_2) = G8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans ((dats m 0 c).arrAt_eq_of_cover 6 (G6 m c) (fun t _ => flushed6_eq m c t) cover6),
      (h c).2.1.trans ((dats m 0 c).arrAt_eq_of_cover 7 (G7 m c) (fun t _ => flushed7_eq m c t) cover7),
      (h c).2.2.1.trans ((dats m 0 c).arrAt_eq_of_cover 8 (G8 m c) (fun t _ => flushed8_eq m c t) cover8), (h c).2.2.2⟩)
    (Value.run_blocks m ρ)

end Cert.ReferenceIdeal.Gen

end
-- ==== Proof.Pre.lean ====
/-
  WHAT THE TWO PRECONDITIONS SAY: each printed function, all ones, gives the bound on every length and the range of every
  query row's largest magnitude.
-/
module

public import proofs.«01_k».proof.Pre_lens_fit
public import proofs.«01_k».proof.Pre_in_range
public import proofs.«01_k».proof.Proof.Rows
public import proofs.«01_k».proof.Proof.Spec
public import Idealize.ShloMosaic.Lib.ReduceAll
public import Idealize.ShloMosaic.Lib.Pointwise
public import Idealize.ShloMosaic.PureOps.Ideal.Laws

@[expose] public section

set_option maxRecDepth 16384

noncomputable section

namespace Cert.Pre

open Idealize.ShloMosaic Cert.Spec Cert.Quant

instance : Subsingleton (Cert.Pre_lens_fit.S_).Idx := ⟨fun _ _ => funext fun a => a.elim0⟩
instance : Subsingleton (Cert.Pre_in_range.S_).Idx := ⟨fun _ _ => funext fun a => a.elim0⟩

theorem sle_of (w : BitVec 32) (h : IntOp.cmpi .sle w 1536#32 = 1#1) : w.toInt ≤ 1536 := by
  have h1 : BitVec.ofBool (w.sle 1536#32) = 1#1 := h
  have h2 : w.sle 1536#32 = true := by
    cases e : w.sle 1536#32
    · rw [e] at h1; exact absurd h1 (by decide)
    · rfl
  rw [BitVec.sle, decide_eq_true_eq] at h2
  exact h2

/-- `lens_fit`: every length is at most 1536. -/
theorem lens {F : FTy → Type} [FloatOps F] [Cert.Pre_lens_fit.Facts] (a0 : FVec F ⟨4, ![9, 4096, 8, 128]⟩ .bf16)
    (a1 : FVec F ⟨4, ![9, 1, 1536, 128]⟩ .fp8e4m3) (a2 : FVec F ⟨3, ![9, 1, 1536]⟩ .f32) (a3 : FVec F ⟨4, ![9, 1, 1536, 128]⟩ .fp8e4m3)
    (a4 : FVec F ⟨2, ![9, 1]⟩ .f32) (a5 : IVec ⟨1, ![9]⟩ 32) (h : Cert.Pre_lens_fit.fn a0 a1 a2 a3 a4 a5 = fun _ => 1#1) (b : Fin 9) :
    (a5 (ix1 b)).toInt ≤ 1536 := by
  have e := congrFun h (fun a => a.elim0)
  exact sle_of _ (Host.reduce_andi_all _ _ _ _ _ e (ix1 b))

section InRange

open Cert.Pre_in_range

section Generic

variable {F : FTy → Type} [FloatOps F] [Facts]

/-- The rows' largest magnitudes, as `in_range` takes them. -/
def rowMax (a0 : FVec F S9x4096x8x128 .bf16) : FVec F S9x4096x8 .f32 :=
  Host.reduce FloatOps.maximumf (Host.absf (extf .f32 a0 Facts.bitsLt_bf16_f32)) (constant S_ .f32 0xFF800000#32)
    Facts.reducesTo_S9x4096x8x128_S9x4096x8_d3 Facts.h_S_

/-- The row-wise test of `in_range` on those. -/
def rowOk (x : FVec F S9x4096x8 .f32) : IVec S9x4096x8 1 := fun i =>
  IntOp.ori (FloatOps.cmpf .oeq (x i) (Scalar.ofBits .f32 0x00000000#32))
    (IntOp.andi (FloatOps.cmpf .oge (x i) (Scalar.ofBits .f32 0x04E00000#32)) (FloatOps.cmpf .ole (x i) (Scalar.ofBits .f32 0x7F7FFFFF#32)))

/-- The test of the lengths. -/
def lenOk (a5 : IVec S9 32) : IVec S9 1 := fun i => IntOp.cmpi .sle (a5 i) 1536#32

theorem fn_eq (a0 : FVec F S9x4096x8x128 .bf16) (a1 : FVec F S9x1x1536x128 .fp8e4m3) (a2 : FVec F S9x1x1536 .f32)
    (a3 : FVec F S9x1x1536x128 .fp8e4m3) (a4 : FVec F S9x1 .f32) (a5 : IVec S9 32) :
    fn a0 a1 a2 a3 a4 a5 = fun i => IntOp.andi
      (Host.reduce IntOp.andi (rowOk (rowMax a0)) (constantI S_ 1 1#1) Facts.reducesTo_S9x4096x8_S_d0_1_2 Facts.h_S_ i)
      (Host.reduce IntOp.andi (lenOk a5) (constantI S_ 1 1#1) Facts.reducesTo_S9_S_d0 Facts.h_S_ i) := rfl

end Generic

theorem negInf : Ideal.ofBits .f32 0xFF800000#32 = (⊥ : EReal) := by
  show Ideal.ieee 8 23 0xFF800000#32 = _
  unfold Ideal.ieee
  simp

theorem zero_bits : Ideal.ofBits .f32 0x00000000#32 = (0 : EReal) := by
  rw [ofBits_fields _ 0 0 (by decide) (by norm_num) (by norm_num), if_pos rfl]
  norm_num

theorem low_bits : Ideal.ofBits .f32 0x04E00000#32 = ((448 * (2 : ℝ) ^ (-126 : ℤ) : ℝ) : EReal) := by
  rw [ofBits_fields _ 9 0x600000 (by decide) (by norm_num) (by norm_num), if_neg (by norm_num)]
  congr 1
  norm_num

theorem high_bits : Ideal.ofBits .f32 0x7F7FFFFF#32 = ((fmax : ℝ) : EReal) := by
  rw [ofBits_fields _ 254 0x7FFFFF (by decide) (by norm_num) (by norm_num), if_neg (by norm_num)]
  unfold fmax
  congr 1
  norm_num

theorem fold_max {ι : Type} (s : Finset ι) (f : ι → EReal) :
    s.fold (FloatOps.maximumf (F := Ideal) (φ := .f32)) (Ideal.ofBits .f32 0xFF800000#32) f = s.sup f := by
  rw [negInf]; rfl

theorem rowMax_apply [Facts] (a0 : FVec Ideal S9x4096x8x128 .bf16) (b : Fin 9) (R : Fin 32768) :
    rowMax a0 (ix3 b ⟨R.val / 8, by omega⟩ ⟨R.val % 8, by omega⟩) = amax (Rows.q a0 b R) := by
  unfold rowMax
  rw [Host.reduce_eq_fold_single (a := 3) FloatOps.maximumf _ _ _ (by decide)]
  refine (fold_max _ _).trans ?_
  unfold amax
  refine Finset.sup_congr rfl fun d _ => ?_
  have e : (Shape.Reduces.lift (s := S9x4096x8x128) (a := 3) (t := S9x4096x8) (by decide)
      (ix3 b ⟨R.val / 8, by omega⟩ ⟨R.val % 8, by omega⟩) d : S9x4096x8x128.Idx)
      = ix4 b ⟨R.val / 8, by omega⟩ ⟨R.val % 8, by omega⟩ d := by
    funext a
    fin_cases a <;> rfl
  exact congrArg (fun z : S9x4096x8x128.Idx => max (a0 z) (-(a0 z))) e

theorem inRange_of (x : EReal) (h : IntOp.ori (Ideal.cmp .oeq x (Ideal.ofBits .f32 0x00000000#32))
    (IntOp.andi (Ideal.cmp .oge x (Ideal.ofBits .f32 0x04E00000#32)) (Ideal.cmp .ole x (Ideal.ofBits .f32 0x7F7FFFFF#32))) = 1#1) :
    InRange x := by
  rw [zero_bits, low_bits, high_bits] at h
  unfold InRange
  by_cases h0 : x = 0
  · exact Or.inl h0
  right
  have h1 : Ideal.cmp .oeq x 0 = 0#1 := by
    show BitVec.ofBool (decide (x = 0)) = 0#1
    rw [decide_eq_false h0]; rfl
  rw [h1] at h
  have h2 : ((448 * (2 : ℝ) ^ (-126 : ℤ) : ℝ) : EReal) ≤ x := by
    by_contra hc
    have e : Ideal.cmp .oge x ((448 * (2 : ℝ) ^ (-126 : ℤ) : ℝ) : EReal) = 0#1 := by
      show BitVec.ofBool (decide (_ ≤ x)) = 0#1
      rw [decide_eq_false hc]; rfl
    rw [e] at h
    revert h
    generalize Ideal.cmp .ole x ((fmax : ℝ) : EReal) = z
    revert z
    decide
  have h3 : x ≤ ((fmax : ℝ) : EReal) := by
    by_contra hc
    have e : Ideal.cmp .ole x ((fmax : ℝ) : EReal) = 0#1 := by
      show BitVec.ofBool (decide (x ≤ _)) = 0#1
      rw [decide_eq_false hc]; rfl
    rw [e] at h
    revert h
    generalize Ideal.cmp .oge x ((448 * (2 : ℝ) ^ (-126 : ℤ) : ℝ) : EReal) = z
    revert z
    decide
  induction x with
  | bot => exact absurd (le_bot_iff.mp h2) (EReal.coe_ne_bot _)
  | top => exact absurd (top_le_iff.mp h3) (EReal.coe_ne_top _)
  | coe r => exact ⟨r, rfl, EReal.coe_le_coe_iff.mp h2, EReal.coe_le_coe_iff.mp h3⟩

variable [Facts] (a0 : FVec Ideal S9x4096x8x128 .bf16) (a1 : FVec Ideal S9x1x1536x128 .fp8e4m3) (a2 : FVec Ideal S9x1x1536 .f32)
  (a3 : FVec Ideal S9x1x1536x128 .fp8e4m3) (a4 : FVec Ideal S9x1 .f32) (a5 : IVec S9 32)
  (h : fn a0 a1 a2 a3 a4 a5 = fun _ => 1#1)

include h

/-- `in_range`: every length is at most 1536 … -/
theorem range_lens (b : Fin 9) : BitVec.toInt (n := 32) (a5 (ix1 b)) ≤ 1536 := by
  rw [fn_eq] at h
  have e := (IntOp.andi_eq_one.1 (congrFun h (fun a => a.elim0))).2
  exact sle_of _ (Host.reduce_andi_all _ _ _ _ _ e (ix1 b))

/-- … and every row of the query is zero, or its largest magnitude lies in the kernel's range. -/
theorem range_rows (b : Fin 9) (R : Fin 32768) : InRange (amax (Rows.q a0 b R)) := by
  rw [fn_eq] at h
  have e := (IntOp.andi_eq_one.1 (congrFun h (fun a => a.elim0))).1
  have e2 := Host.reduce_andi_all _ _ _ _ _ e (ix3 b ⟨R.val / 8, by omega⟩ ⟨R.val % 8, by omega⟩)
  rw [← rowMax_apply]
  exact inRange_of _ e2

end InRange

end Cert.Pre

end
-- ==== Proof.lean ====
/-
  THE CLAIM: the kernel and its ideal twin run, end with their arguments unchanged and every semaphore at zero; so does
  the reference; the ideal twin is the kernel with `log2 e` read exactly; and, from the same arguments, the ideal twin
  and the reference end with the same attention, the same codes and the same scales.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_lens_fit
public import proofs.«01_k».proof.Proof.Gen.Pre_in_range
public import proofs.«01_k».proof.Proof.Gen.ReferenceIdeal.Value
public import proofs.«01_k».proof.Proof.K.Bounds
public import proofs.«01_k».proof.Proof.K.Frame
public import proofs.«01_k».proof.Proof.KI.Value
public import proofs.«01_k».proof.Proof.Ref.Value
public import proofs.«01_k».proof.Proof.Pre
public import Idealize.ShloMosaic.Adequacy
public import Idealize.ShloMosaic.Init

@[expose] public section

set_option maxRecDepth 16384

noncomputable section

/-! ## The kernel's side conditions, from the bound on the lengths -/

namespace Cert.Kernel.Gen

open Idealize.ShloMosaic Idealize.ShloMosaic.TcCoe Idealize.SL Idealize.SL.Sem

variable (m : (ℓ : Loc nD τ sig) → Buf (Elt Bits) ℓ)

/-- The word the body reads at a grid point is its batch's length. -/
theorem off1_emb (i : grid0.Coords) :
    (Rect.unit (s := S9) (k0_off1 i) S1.size (k0_off1_inb i)).emb (Shape.Idx.first (numel1_S1.symm ▸ Nat.one_pos)) = ix1 (i 0 : Fin 9) := by
  funext a
  apply Fin.ext
  refine (Rect.emb_apply _ _ _).trans ?_
  fin_cases a
  have h : k0_off1 i 0 = (i 0).val := by
    have h : (i 0).val < 9 := (i 0).isLt
    show (BitVec.ofNat 32 (i 0).val).toNat = _
    rw [BitVec.toNat_ofNat]
    exact Nat.mod_eq_of_lt (by omega)
  show k0_off1 i 0 + 1 * (Shape.Idx.first (s := S1) (numel1_S1.symm ▸ Nat.one_pos) 0).val = (i 0).val
  have h1 : (Shape.Idx.first (s := S1) (numel1_S1.symm ▸ Nat.one_pos) 0).val < 1 := (Shape.Idx.first (s := S1) (numel1_S1.symm ▸ Nat.one_pos) 0).isLt
  omega

theorem ok : Ok m := trivial

/-- Every side condition the body assumes of a length holds when no length exceeds 1536. -/
theorem hyps (h : ∀ b : Fin 9, BitVec.toInt (n := 32) (m (((0 : Dev nD) : Thread nD τ).loc main_arg5) (ix1 b)) ≤ 1536) : Hyps m (ok m) :=
  Hyps.of fun c t => by
    refine chk1_of _ ?_
    have e : tbl m 0 (ix1 (grid0.coords t 0 : Fin 9)) = m (((0 : Dev nD) : Thread nD τ).loc main_arg5) (ix1 (grid0.coords t 0 : Fin 9)) :=
      congrFun (V_main_arg5 m 0) _
    refine le_of_eq_of_le (congrArg (BitVec.toInt (n := 32)) ((congrArg (tbl m 0) (off1_emb (grid0.coords t))).trans e)) (h _)

end Cert.Kernel.Gen

namespace Cert.KernelIdeal.Gen

open Idealize.ShloMosaic Idealize.ShloMosaic.TcCoe Idealize.SL Idealize.SL.Sem

variable (m : (ℓ : Loc nD τ sig) → Buf (Elt Ideal) ℓ)

theorem ok : Ok m := trivial

theorem lens (h : ∀ b : Fin 9, BitVec.toInt (n := 32) (m (((0 : Dev nD) : Thread nD τ).loc main_arg5) (ix1 b)) ≤ 1536) : Lens m := by
  intro c i
  obtain rfl : c = 0 := Subsingleton.elim _ _
  exact le_of_eq_of_le (congrArg (BitVec.toInt (n := 32)) ((word_at 0 i _).trans (congrFun (V_main_arg5 m 0) _))) (h _)

end Cert.KernelIdeal.Gen

namespace Cert.Proof

open Idealize.ShloMosaic Idealize.ShloMosaic.TcCoe Idealize.SL.Sem Cert.Spec Cert.Quant

attribute [local instance] Cert.Kernel.Gen.facts Cert.KernelIdeal.Gen.facts Cert.ReferenceIdeal.Gen.facts Cert.Pre_lens_fit.Gen.facts
  Cert.Pre_in_range.Gen.facts

/-- The kernel's frame. -/
theorem frame_kernel : Cert.quiescent_Kernel := fun m g hP =>
  Cert.Kernel.Gen.frame m g (Cert.Kernel.Gen.ok m) (Cert.Kernel.Gen.hyps m fun b => Cert.Pre.lens _ _ _ _ _ _ (hP 0) b)

/-- The ideal twin's frame, under either precondition. -/
theorem frame_ideal : Cert.quiescent_KernelIdeal := fun m g hP =>
  Cert.KernelIdeal.Gen.frame m g (Cert.KernelIdeal.Gen.ok m) (Cert.KernelIdeal.Gen.lens m fun b => Cert.Pre.lens _ _ _ _ _ _ (hP 0) b)

theorem frame_ideal_in_range : Cert.quiescent_KernelIdeal_pre_in_range := fun m g hP =>
  Cert.KernelIdeal.Gen.frame m g (Cert.KernelIdeal.Gen.ok m) (Cert.KernelIdeal.Gen.lens m fun b => Cert.Pre.range_lens _ _ _ _ _ _ (hP 0) b)

/-- The reference's frame. -/
theorem frame_reference : Cert.quiescent_ReferenceIdeal := fun m g _ => Cert.ReferenceIdeal.Gen.frame m g

theorem frame_reference_in_range : Cert.quiescent_ReferenceIdeal_pre_in_range := fun m g _ => Cert.ReferenceIdeal.Gen.frame m g

/-- The one constant read exactly. -/
theorem preserves : Cert.preserves_Kernel_KernelIdeal := IdealRules.named_const.statement _ _ _ _ _ rfl

section Equal

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (hR : ∀ b R, InRange (amax (Rows.q (m ((c.tc : Thread Cert.KernelIdeal.nD Cert.KernelIdeal.τ).loc Cert.KernelIdeal.main_arg0)) b R)))

include h0 hR

theorem eq_scales : Cert.ReferenceIdeal.Gen.G8 m' c = Cert.KernelIdeal.Gen.G7 m c := by
  funext y
  unfold Cert.ReferenceIdeal.Gen.G8 Cert.KernelIdeal.Gen.G7
  refine Eq.trans ?_ (kscale_eq_rscale _ (hR _ _)).symm
  exact congrArg (fun a => rscale (Rows.q a (y 0) (y 2))) h0

theorem eq_codes : Cert.ReferenceIdeal.Gen.G7 m' c = Cert.KernelIdeal.Gen.G6 m c := by
  funext y
  unfold Cert.ReferenceIdeal.Gen.G7 Cert.KernelIdeal.Gen.G6
  refine Eq.trans ?_ (kcode_eq_rcode _ (hR _ _) _).symm
  exact congrArg (fun a => rcode (Rows.q a (y 0) (y 1)) (y 2)) h0

variable
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
  (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))

include h1 h2 h3 h4 h5

theorem eq_attention : Cert.ReferenceIdeal.Gen.G6 m' c = Cert.KernelIdeal.Gen.G5 m c := by
  funext y
  unfold Cert.ReferenceIdeal.Gen.G6 Cert.KernelIdeal.Gen.G5
  refine Eq.trans ?_ (kout_eq_rout _ _ _ _ _ _ (hR _ _)).symm
  have e0 := congrArg (fun a => Rows.q a (y 0) (y 1)) h0
  have e1 := congrArg (fun a => Rows.key a (y 0)) h1
  have e2 := congrArg (fun a => Rows.ksc a (y 0)) h2
  have e3 := congrArg (fun a => Rows.val a (y 0) (y 2)) h3
  have e4 := congrFun h4 (ix2 (y 0 : Fin 9) (0 : Fin 1))
  have e5 := congrArg (BitVec.toInt (n := 32)) (congrFun h5 (ix1 (y 0 : Fin 9)))
  exact congr (congr (congr (congr (congr (congrArg rout e0) e1) e2) e3) e4) e5

end Equal

/-- From the same arguments the ideal twin and the reference end with the same three results. -/
theorem equal : Cert.algebraic_KernelIdeal_ReferenceIdeal_pre_in_range := by
  intro m g m' g' hP hA
  have hL := Cert.KernelIdeal.Gen.lens m fun b => Cert.Pre.range_lens _ _ _ _ _ _ (hP 0) b
  have hR := fun (c : Dev Cert.KernelIdeal.nD) b R => Cert.Pre.range_rows _ _ _ _ _ _ (hP c) b R
  refine ⟨fun c => Cert.KernelIdeal.Gen.G5 m c, fun c => Cert.KernelIdeal.Gen.G6 m c, fun c => Cert.KernelIdeal.Gen.G7 m c, ?_, ?_⟩
  · exact (θ_run _ _ _).mono (fun _ h c => ⟨(h c).1.1, (h c).1.2.1, (h c).1.2.2, (h c).2⟩)
      (Cert.KernelIdeal.Gen.run m g (Cert.KernelIdeal.Gen.ok m) hL)
  · refine (θ_run _ _ _).mono (fun _ h c => ?_) (Cert.ReferenceIdeal.Gen.run m' g')
    obtain ⟨h0, h1, h2, h3, h4, h5⟩ := hA c
    exact ⟨(h c).1.trans (eq_attention m m' c h0 (hR c) h1 h2 h3 h4 h5), (h c).2.1.trans (eq_codes m m' c h0 (hR c)),
      (h c).2.2.1.trans (eq_scales m m' c h0 (hR c)), (h c).2.2.2⟩

theorem claim : Cert.Claim := ⟨Cert.Kernel.Gen.facts, Cert.KernelIdeal.Gen.facts, Cert.ReferenceIdeal.Gen.facts, Cert.Pre_lens_fit.Gen.facts, Cert.Pre_in_range.Gen.facts,
  frame_kernel, frame_ideal, frame_ideal_in_range, frame_reference, frame_reference_in_range, preserves, equal⟩

end Cert.Proof

end
